-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v34) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x5120 : Shape := ⟨3, ![2, 16384, 5120]⟩
abbrev S2x16384x40 : Shape := ⟨3, ![2, 16384, 40]⟩
abbrev S5120x2x6400 : Shape := ⟨3, ![5120, 2, 6400]⟩
abbrev S40x2x50 : Shape := ⟨3, ![40, 2, 50]⟩
abbrev S6400x5120 : Shape := ⟨2, ![6400, 5120]⟩
abbrev S50x40 : Shape := ⟨2, ![50, 40]⟩
abbrev S2x5120x6400 : Shape := ⟨3, ![2, 5120, 6400]⟩
abbrev S10240x6400 : Shape := ⟨2, ![10240, 6400]⟩
abbrev S2x40x50 : Shape := ⟨3, ![2, 40, 50]⟩
abbrev S80x50 : Shape := ⟨2, ![80, 50]⟩
abbrev S128x6400 : Shape := ⟨2, ![128, 6400]⟩
abbrev S128x128 : Shape := ⟨2, ![128, 128]⟩
abbrev S1x1 : Shape := ⟨2, ![1, 1]⟩
abbrev S128x5120 : Shape := ⟨2, ![128, 5120]⟩
abbrev S32768x5120 : Shape := ⟨2, ![32768, 5120]⟩
abbrev S2x40x16384 : Shape := ⟨3, ![2, 40, 16384]⟩
abbrev S5120x32768 : Shape := ⟨2, ![5120, 32768]⟩
abbrev S1x40x512 : Shape := ⟨3, ![1, 40, 512]⟩
abbrev S512x5120 : Shape := ⟨2, ![512, 5120]⟩
abbrev S5120x512 : Shape := ⟨2, ![5120, 512]⟩
abbrev S40x512 : Shape := ⟨2, ![40, 512]⟩
abbrev S512x40 : Shape := ⟨2, ![512, 40]⟩
abbrev S512x1 : Shape := ⟨2, ![512, 1]⟩
abbrev S512x128 : Shape := ⟨2, ![512, 128]⟩
abbrev S128x512 : Shape := ⟨2, ![128, 512]⟩
abbrev S6400x32768 : Shape := ⟨2, ![6400, 32768]⟩
abbrev S1x32768x6400 : Shape := ⟨3, ![1, 32768, 6400]⟩
abbrev S25x2x32768 : Shape := ⟨3, ![25, 2, 32768]⟩
abbrev S1x5120x256 : Shape := ⟨3, ![1, 5120, 256]⟩
abbrev S256x5120 : Shape := ⟨2, ![256, 5120]⟩
abbrev S256x512 : Shape := ⟨2, ![256, 512]⟩
abbrev S1x512x256 : Shape := ⟨3, ![1, 512, 256]⟩
abbrev S1x2x512 : Shape := ⟨3, ![1, 2, 512]⟩
abbrev S5120x256 : Shape := ⟨2, ![5120, 256]⟩
abbrev S512x256 : Shape := ⟨2, ![512, 256]⟩
abbrev S2x128x512 : Shape := ⟨3, ![2, 128, 512]⟩
abbrev S2x512 : Shape := ⟨2, ![2, 512]⟩
abbrev S32768x6400 : Shape := ⟨2, ![32768, 6400]⟩
abbrev S5120x6400 : Shape := ⟨2, ![5120, 6400]⟩
abbrev S2560x1024 : Shape := ⟨2, ![2560, 1024]⟩
abbrev S1024x1280 : Shape := ⟨2, ![1024, 1280]⟩
abbrev S2560x1280 : Shape := ⟨2, ![2560, 1280]⟩
abbrev S1280x1024 : Shape := ⟨2, ![1280, 1024]⟩
abbrev S1024x2560 : Shape := ⟨2, ![1024, 2560]⟩
abbrev S1280x2560 : Shape := ⟨2, ![1280, 2560]⟩
abbrev S1x1024x1280 : Shape := ⟨3, ![1, 1024, 1280]⟩
abbrev S1x2560x1280 : Shape := ⟨3, ![1, 2560, 1280]⟩
abbrev S5120x1x6400 : Shape := ⟨3, ![5120, 1, 6400]⟩
abbrev S50x32768 : Shape := ⟨2, ![50, 32768]⟩
abbrev S32768x50 : Shape := ⟨2, ![32768, 50]⟩
abbrev S2x16384x50 : Shape := ⟨3, ![2, 16384, 50]⟩
abbrev S2x16384x1x50 : Shape := ⟨4, ![2, 16384, 1, 50]⟩
abbrev S2x16384x2x50 : Shape := ⟨4, ![2, 16384, 2, 50]⟩

abbrev nBuf : Space → Nat
  | .hbm => 50
  | .vmem => 73
  | .smem => 2
  | _ => 0

abbrev bufTy : (tb : Table) → Fin (tcTables nBuf tb) → BufTy
  | .hbm, ⟨0, _⟩ => ⟨S2x16384x5120, .fp8e4m3⟩
  | .hbm, ⟨1, _⟩ => ⟨S2x16384x40, .f32⟩
  | .hbm, ⟨2, _⟩ => ⟨S2x16384x5120, .fp8e5m2⟩
  | .hbm, ⟨3, _⟩ => ⟨S2x16384x40, .f32⟩
  | .hbm, ⟨4, _⟩ => ⟨S5120x2x6400, .fp8e4m3⟩
  | .hbm, ⟨5, _⟩ => ⟨S40x2x50, .f32⟩
  | .hbm, ⟨6, _⟩ => ⟨S6400x5120, .fp8e4m3⟩
  | .hbm, ⟨7, _⟩ => ⟨S50x40, .f32⟩
  | .hbm, ⟨8, _⟩ => ⟨S2x5120x6400, .fp8e4m3⟩
  | .hbm, ⟨9, _⟩ => ⟨S10240x6400, .fp8e4m3⟩
  | .hbm, ⟨10, _⟩ => ⟨S2x40x50, .f32⟩
  | .hbm, ⟨11, _⟩ => ⟨S80x50, .f32⟩
  | .hbm, ⟨12, _⟩ => ⟨S10240x6400, .bf16⟩
  | .hbm, ⟨13, _⟩ => ⟨S2x5120x6400, .bf16⟩
  | .hbm, ⟨14, _⟩ => ⟨S6400x5120, .bf16⟩
  | .hbm, ⟨15, _⟩ => ⟨S32768x5120, .fp8e4m3⟩
  | .hbm, ⟨16, _⟩ => ⟨S2x40x16384, .f32⟩
  | .hbm, ⟨17, _⟩ => ⟨S32768x5120, .bf16⟩
  | .hbm, ⟨18, _⟩ => ⟨S5120x32768, .bf16⟩
  | .hbm, ⟨19, _⟩ => ⟨S32768x5120, .fp8e5m2⟩
  | .hbm, ⟨20, _⟩ => ⟨S2x40x16384, .f32⟩
  | .hbm, ⟨21, _⟩ => ⟨S32768x5120, .bf16⟩
  | .hbm, ⟨22, _⟩ => ⟨S6400x32768, .bf16⟩
  | .hbm, ⟨23, _⟩ => ⟨S1x32768x6400, .bf16⟩
  | .hbm, ⟨24, _⟩ => ⟨S1x32768x6400, .bf16⟩
  | .hbm, ⟨25, _⟩ => ⟨S25x2x32768, .f32⟩
  | .hbm, ⟨26, _⟩ => ⟨S25x2x32768, .f32⟩
  | .hbm, ⟨27, _⟩ => ⟨S25x2x32768, .f32⟩
  | .hbm, ⟨28, _⟩ => ⟨S32768x6400, .bf16⟩
  | .hbm, ⟨29, _⟩ => ⟨S5120x6400, .f32⟩
  | .hbm, ⟨30, _⟩ => ⟨S32768x6400, .bf16⟩
  | .hbm, ⟨31, _⟩ => ⟨S5120x6400, .f32⟩
  | .hbm, ⟨32, _⟩ => ⟨S6400x5120, .f32⟩
  | .hbm, ⟨33, _⟩ => ⟨S32768x5120, .bf16⟩
  | .hbm, ⟨34, _⟩ => ⟨S5120x1x6400, .f32⟩
  | .hbm, ⟨35, _⟩ => ⟨S5120x1x6400, .f32⟩
  | .hbm, ⟨36, _⟩ => ⟨S5120x2x6400, .f32⟩
  | .hbm, ⟨37, _⟩ => ⟨S50x32768, .f32⟩
  | .hbm, ⟨38, _⟩ => ⟨S32768x50, .f32⟩
  | .hbm, ⟨39, _⟩ => ⟨S2x16384x50, .f32⟩
  | .hbm, ⟨40, _⟩ => ⟨S50x32768, .f32⟩
  | .hbm, ⟨41, _⟩ => ⟨S32768x50, .f32⟩
  | .hbm, ⟨42, _⟩ => ⟨S2x16384x50, .f32⟩
  | .hbm, ⟨43, _⟩ => ⟨S50x32768, .f32⟩
  | .hbm, ⟨44, _⟩ => ⟨S32768x50, .f32⟩
  | .hbm, ⟨45, _⟩ => ⟨S2x16384x50, .f32⟩
  | .hbm, ⟨46, _⟩ => ⟨S2x16384x1x50, .f32⟩
  | .hbm, ⟨47, _⟩ => ⟨S2x16384x1x50, .f32⟩
  | .hbm, ⟨48, _⟩ => ⟨S2x16384x2x50, .f32⟩
  | .hbm, ⟨49, _⟩ => ⟨S2x16384x5120, .bf16⟩
  | .local _ .vmem, ⟨0, _⟩ => ⟨S128x6400, .fp8e4m3⟩
  | .local _ .vmem, ⟨1, _⟩ => ⟨S128x6400, .fp8e4m3⟩
  | .local _ .vmem, ⟨2, _⟩ => ⟨S128x6400, .bf16⟩
  | .local _ .vmem, ⟨3, _⟩ => ⟨S128x6400, .bf16⟩
  | .local _ .vmem, ⟨4, _⟩ => ⟨S128x5120, .fp8e4m3⟩
  | .local _ .vmem, ⟨5, _⟩ => ⟨S128x5120, .fp8e4m3⟩
  | .local _ .vmem, ⟨6, _⟩ => ⟨S128x5120, .bf16⟩
  | .local _ .vmem, ⟨7, _⟩ => ⟨S128x5120, .bf16⟩
  | .local _ .vmem, ⟨8, _⟩ => ⟨S1x40x512, .f32⟩
  | .local _ .vmem, ⟨9, _⟩ => ⟨S1x40x512, .f32⟩
  | .local _ .vmem, ⟨10, _⟩ => ⟨S512x5120, .fp8e4m3⟩
  | .local _ .vmem, ⟨11, _⟩ => ⟨S512x5120, .fp8e4m3⟩
  | .local _ .vmem, ⟨12, _⟩ => ⟨S512x5120, .bf16⟩
  | .local _ .vmem, ⟨13, _⟩ => ⟨S512x5120, .bf16⟩
  | .local _ .vmem, ⟨14, _⟩ => ⟨S5120x512, .bf16⟩
  | .local _ .vmem, ⟨15, _⟩ => ⟨S5120x512, .bf16⟩
  | .local _ .vmem, ⟨16, _⟩ => ⟨S1x40x512, .f32⟩
  | .local _ .vmem, ⟨17, _⟩ => ⟨S1x40x512, .f32⟩
  | .local _ .vmem, ⟨18, _⟩ => ⟨S512x5120, .fp8e5m2⟩
  | .local _ .vmem, ⟨19, _⟩ => ⟨S512x5120, .fp8e5m2⟩
  | .local _ .vmem, ⟨20, _⟩ => ⟨S512x5120, .bf16⟩
  | .local _ .vmem, ⟨21, _⟩ => ⟨S512x5120, .bf16⟩
  | .local _ .vmem, ⟨22, _⟩ => ⟨S512x5120, .bf16⟩
  | .local _ .vmem, ⟨23, _⟩ => ⟨S512x5120, .bf16⟩
  | .local _ .vmem, ⟨24, _⟩ => ⟨S512x5120, .bf16⟩
  | .local _ .vmem, ⟨25, _⟩ => ⟨S512x5120, .bf16⟩
  | .local _ .vmem, ⟨26, _⟩ => ⟨S1x5120x256, .bf16⟩
  | .local _ .vmem, ⟨27, _⟩ => ⟨S1x5120x256, .bf16⟩
  | .local _ .vmem, ⟨28, _⟩ => ⟨S1x5120x256, .bf16⟩
  | .local _ .vmem, ⟨29, _⟩ => ⟨S1x5120x256, .bf16⟩
  | .local _ .vmem, ⟨30, _⟩ => ⟨S256x5120, .bf16⟩
  | .local _ .vmem, ⟨31, _⟩ => ⟨S256x5120, .bf16⟩
  | .local _ .vmem, ⟨32, _⟩ => ⟨S256x512, .bf16⟩
  | .local _ .vmem, ⟨33, _⟩ => ⟨S256x512, .bf16⟩
  | .local _ .vmem, ⟨34, _⟩ => ⟨S1x512x256, .bf16⟩
  | .local _ .vmem, ⟨35, _⟩ => ⟨S1x512x256, .bf16⟩
  | .local _ .vmem, ⟨36, _⟩ => ⟨S1x512x256, .bf16⟩
  | .local _ .vmem, ⟨37, _⟩ => ⟨S1x512x256, .bf16⟩
  | .local _ .vmem, ⟨38, _⟩ => ⟨S1x2x512, .f32⟩
  | .local _ .vmem, ⟨39, _⟩ => ⟨S1x2x512, .f32⟩
  | .local _ .vmem, ⟨40, _⟩ => ⟨S1x2x512, .f32⟩
  | .local _ .vmem, ⟨41, _⟩ => ⟨S1x2x512, .f32⟩
  | .local _ .vmem, ⟨42, _⟩ => ⟨S1x2x512, .f32⟩
  | .local _ .vmem, ⟨43, _⟩ => ⟨S1x2x512, .f32⟩
  | .local _ .vmem, ⟨44, _⟩ => ⟨S2560x1024, .bf16⟩
  | .local _ .vmem, ⟨45, _⟩ => ⟨S2560x1024, .bf16⟩
  | .local _ .vmem, ⟨46, _⟩ => ⟨S1024x1280, .bf16⟩
  | .local _ .vmem, ⟨47, _⟩ => ⟨S1024x1280, .bf16⟩
  | .local _ .vmem, ⟨48, _⟩ => ⟨S2560x1280, .f32⟩
  | .local _ .vmem, ⟨49, _⟩ => ⟨S2560x1280, .f32⟩
  | .local _ .vmem, ⟨50, _⟩ => ⟨S2560x1024, .bf16⟩
  | .local _ .vmem, ⟨51, _⟩ => ⟨S2560x1024, .bf16⟩
  | .local _ .vmem, ⟨52, _⟩ => ⟨S1024x1280, .bf16⟩
  | .local _ .vmem, ⟨53, _⟩ => ⟨S1024x1280, .bf16⟩
  | .local _ .vmem, ⟨54, _⟩ => ⟨S2560x1280, .f32⟩
  | .local _ .vmem, ⟨55, _⟩ => ⟨S2560x1280, .f32⟩
  | .local _ .vmem, ⟨56, _⟩ => ⟨S1280x1024, .bf16⟩
  | .local _ .vmem, ⟨57, _⟩ => ⟨S1280x1024, .bf16⟩
  | .local _ .vmem, ⟨58, _⟩ => ⟨S1024x2560, .bf16⟩
  | .local _ .vmem, ⟨59, _⟩ => ⟨S1024x2560, .bf16⟩
  | .local _ .vmem, ⟨60, _⟩ => ⟨S1280x2560, .f32⟩
  | .local _ .vmem, ⟨61, _⟩ => ⟨S1280x2560, .f32⟩
  | .local _ .vmem, ⟨62, _⟩ => ⟨S1x1024x1280, .bf16⟩
  | .local _ .vmem, ⟨63, _⟩ => ⟨S1x1024x1280, .bf16⟩
  | .local _ .vmem, ⟨64, _⟩ => ⟨S1x1024x1280, .bf16⟩
  | .local _ .vmem, ⟨65, _⟩ => ⟨S1x1024x1280, .bf16⟩
  | .local _ .vmem, ⟨66, _⟩ => ⟨S1x2560x1280, .bf16⟩
  | .local _ .vmem, ⟨67, _⟩ => ⟨S1x2560x1280, .bf16⟩
  | .local _ .vmem, ⟨68, _⟩ => ⟨S1x2560x1280, .bf16⟩
  | .local _ .vmem, ⟨69, _⟩ => ⟨S1x2560x1280, .bf16⟩
  | .local _ .vmem, ⟨70, _⟩ => ⟨S1024x2560, .bf16⟩
  | .local _ .vmem, ⟨71, _⟩ => ⟨S1024x2560, .bf16⟩
  | .local _ .vmem, ⟨72, _⟩ => ⟨S1024x2560, .f32⟩
  | .local _ .smem, ⟨0, _⟩ => ⟨S80x50, .f32⟩
  | .local _ .smem, ⟨1, _⟩ => ⟨S50x40, .f32⟩
  | _, _ => ⟨S2x16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc4_stg3_0 : Ref sig .tc := ⟨.vmem, 28, rfl⟩
abbrev cc4_stg3_1 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc4_stg6_0 : Ref sig .tc := ⟨.vmem, 34, rfl⟩
abbrev cc4_stg6_1 : Ref sig .tc := ⟨.vmem, 35, rfl⟩
abbrev cc4_stg7_0 : Ref sig .tc := ⟨.vmem, 36, rfl⟩
abbrev cc4_stg7_1 : Ref sig .tc := ⟨.vmem, 37, rfl⟩
abbrev cc4_stg8_0 : Ref sig .tc := ⟨.vmem, 38, rfl⟩
abbrev cc4_stg8_1 : Ref sig .tc := ⟨.vmem, 39, rfl⟩
abbrev cc4_stg9_0 : Ref sig .tc := ⟨.vmem, 40, rfl⟩
abbrev cc4_stg9_1 : Ref sig .tc := ⟨.vmem, 41, rfl⟩
abbrev cc4_stg10_0 : Ref sig .tc := ⟨.vmem, 42, rfl⟩
abbrev cc4_stg10_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg1_1 : Ref sig .tc := ⟨.vmem, 65, rfl⟩
abbrev cc8_stg2_0 : Ref sig .tc := ⟨.vmem, 66, rfl⟩
abbrev cc8_stg2_1 : Ref sig .tc := ⟨.vmem, 67, rfl⟩
abbrev cc8_stg3_0 : Ref sig .tc := ⟨.vmem, 68, rfl⟩
abbrev cc8_stg3_1 : Ref sig .tc := ⟨.vmem, 69, rfl⟩
abbrev cc8_stg4_0 : Ref sig .tc := ⟨.vmem, 70, rfl⟩
abbrev cc8_stg4_1 : Ref sig .tc := ⟨.vmem, 71, rfl⟩
abbrev cc8_scratch0 : Ref sig .tc := ⟨.vmem, 72, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc4_sem5_0 : DmaSem sig := 34
abbrev cc4_sem5_1 : DmaSem sig := 35
abbrev cc4_sem6_0 : DmaSem sig := 36
abbrev cc4_sem6_1 : DmaSem sig := 37
abbrev cc4_sem7_0 : DmaSem sig := 38
abbrev cc4_sem7_1 : DmaSem sig := 39
abbrev cc4_sem8_0 : DmaSem sig := 40
abbrev cc4_sem8_1 : DmaSem sig := 41
abbrev cc4_sem9_0 : DmaSem sig := 42
abbrev cc4_sem9_1 : DmaSem sig := 43
abbrev cc4_sem10_0 : DmaSem sig := 44
abbrev cc4_sem10_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem2_1 : DmaSem sig := 69
abbrev cc8_sem3_0 : DmaSem sig := 70
abbrev cc8_sem3_1 : DmaSem sig := 71
abbrev cc8_sem4_0 : DmaSem sig := 72
abbrev cc8_sem4_1 : DmaSem sig := 73

abbrev nD : Nat := 1
abbrev τ : Topo := Topo.v7x

variable {F : FTy → Type} [FloatOps F]

abbrev grid0 : Pipeline.Grid := ⟨1, ![80], ![false]⟩

def k0_off1 (i : grid0.Coords) : Fin 2 → Nat :=
  let arg0 : BitVec 32 := BitVec.ofNat 32 (i 0).val
  let v3 : Index := Scalar.indexCast arg0
  let c0_1 : Index := 0#32
  ![v3.toNat, 0]
def k0_off2 (i : grid0.Coords) : Fin 2 → Nat :=
  let arg0 : BitVec 32 := BitVec.ofNat 32 (i 0).val
  let v12 : Index := Scalar.indexCast arg0
  let c1 : Index := 1#32
  ![v12.toNat, 1]
def k0_off3 (i : grid0.Coords) : Fin 2 → Nat :=
  let arg0 : BitVec 32 := BitVec.ofNat 32 (i 0).val
  let v21 : Index := Scalar.indexCast arg0
  let c2 : Index := 2#32
  ![v21.toNat, 2]
def k0_off4 (i : grid0.Coords) : Fin 2 → Nat :=
  let arg0 : BitVec 32 := BitVec.ofNat 32 (i 0).val
  let v30 : Index := Scalar.indexCast arg0
  let c3 : Index := 3#32
  ![v30.toNat, 3]
def k0_off5 (i : grid0.Coords) : Fin 2 → Nat :=
  let arg0 : BitVec 32 := BitVec.ofNat 32 (i 0).val
  let v39 : Index := Scalar.indexCast arg0
  let c4 : Index := 4#32
  ![v39.toNat, 4]
def k0_off6 (i : grid0.Coords) : Fin 2 → Nat :=
  let arg0 : BitVec 32 := BitVec.ofNat 32 (i 0).val
  let v48 : Index := Scalar.indexCast arg0
  let c5 : Index := 5#32
  ![v48.toNat, 5]
def k0_off7 (i : grid0.Coords) : Fin 2 → Nat :=
  let arg0 : BitVec 32 := BitVec.ofNat 32 (i 0).val
  let v57 : Index := Scalar.indexCast arg0
  let c6 : Index := 6#32
  ![v57.toNat, 6]
def k0_off8 (i : grid0.Coords) : Fin 2 → Nat :=
  let arg0 : BitVec 32 := BitVec.ofNat 32 (i 0).val
  let v66 : Index := Scalar.indexCast arg0
  let c7 : Index := 7#32
  ![v66.toNat, 7]
def k0_off9 (i : grid0.Coords) : Fin 2 → Nat :=
  let arg0 : BitVec 32 := BitVec.ofNat 32 (i 0).val
  let v75 : Index := Scalar.indexCast arg0
  let c8 : Index := 8#32
  ![v75.toNat, 8]
def k0_off10 (i : grid0.Coords) : Fin 2 → Nat :=
  let arg0 : BitVec 32 := BitVec.ofNat 32 (i 0).val
  let v84 : Index := Scalar.indexCast arg0
  let c9 : Index := 9#32
  ![v84.toNat, 9]
def k0_off11 (i : grid0.Coords) : Fin 2 → Nat :=
  let arg0 : BitVec 32 := BitVec.ofNat 32 (i 0).val
  let v93 : Index := Scalar.indexCast arg0
  let c10 : Index := 10#32
  ![v93.toNat, 10]
def k0_off12 (i : grid0.Coords) : Fin 2 → Nat :=
  let arg0 : BitVec 32 := BitVec.ofNat 32 (i 0).val
  let v102 : Index := Scalar.indexCast arg0
  let c11 : Index := 11#32
  ![v102.toNat, 11]
def k0_off13 (i : grid0.Coords) : Fin 2 → Nat :=
  let arg0 : BitVec 32 := BitVec.ofNat 32 (i 0).val
  let v111 : Index := Scalar.indexCast arg0
  let c12 : Index := 12#32
  ![v111.toNat, 12]
def k0_off14 (i : grid0.Coords) : Fin 2 → Nat :=
  let arg0 : BitVec 32 := BitVec.ofNat 32 (i 0).val
  let v120 : Index := Scalar.indexCast arg0
  let c13 : Index := 13#32
  ![v120.toNat, 13]
def k0_off15 (i : grid0.Coords) : Fin 2 → Nat :=
  let arg0 : BitVec 32 := BitVec.ofNat 32 (i 0).val
  let v129 : Index := Scalar.indexCast arg0
  let c14 : Index := 14#32
  ![v129.toNat, 14]
def k0_off16 (i : grid0.Coords) : Fin 2 → Nat :=
  let arg0 : BitVec 32 := BitVec.ofNat 32 (i 0).val
  let v138 : Index := Scalar.indexCast arg0
  let c15 : Index := 15#32
  ![v138.toNat, 15]
def k0_off17 (i : grid0.Coords) : Fin 2 → Nat :=
  let arg0 : BitVec 32 := BitVec.ofNat 32 (i 0).val
  let v147 : Index := Scalar.indexCast arg0
  let c16 : Index := 16#32
  ![v147.toNat, 16]
def k0_off18 (i : grid0.Coords) : Fin 2 → Nat :=
  let arg0 : BitVec 32 := BitVec.ofNat 32 (i 0).val
  let v156 : Index := Scalar.indexCast arg0
  let c17 : Index := 17#32
  ![v156.toNat, 17]
def k0_off19 (i : grid0.Coords) : Fin 2 → Nat :=
  let arg0 : BitVec 32 := BitVec.ofNat 32 (i 0).val
  let v165 : Index := Scalar.indexCast arg0
  let c18 : Index := 18#32
  ![v165.toNat, 18]
def k0_off20 (i : grid0.Coords) : Fin 2 → Nat :=
  let arg0 : BitVec 32 := BitVec.ofNat 32 (i 0).val
  let v174 : Index := Scalar.indexCast arg0
  let c19 : Index := 19#32
  ![v174.toNat, 19]
def k0_off21 (i : grid0.Coords) : Fin 2 → Nat :=
  let arg0 : BitVec 32 := BitVec.ofNat 32 (i 0).val
  let v183 : Index := Scalar.indexCast arg0
  let c20 : Index := 20#32
  ![v183.toNat, 20]
def k0_off22 (i : grid0.Coords) : Fin 2 → Nat :=
  let arg0 : BitVec 32 := BitVec.ofNat 32 (i 0).val
  let v192 : Index := Scalar.indexCast arg0
  let c21 : Index := 21#32
  ![v192.toNat, 21]
def k0_off23 (i : grid0.Coords) : Fin 2 → Nat :=
  let arg0 : BitVec 32 := BitVec.ofNat 32 (i 0).val
  let v201 : Index := Scalar.indexCast arg0
  let c22 : Index := 22#32
  ![v201.toNat, 22]
def k0_off24 (i : grid0.Coords) : Fin 2 → Nat :=
  let arg0 : BitVec 32 := BitVec.ofNat 32 (i 0).val
  let v210 : Index := Scalar.indexCast arg0
  let c23 : Index := 23#32
  ![v210.toNat, 23]
def k0_off25 (i : grid0.Coords) : Fin 2 → Nat :=
  let arg0 : BitVec 32 := BitVec.ofNat 32 (i 0).val
  let v219 : Index := Scalar.indexCast arg0
  let c24 : Index := 24#32
  ![v219.toNat, 24]
def k0_off26 (i : grid0.Coords) : Fin 2 → Nat :=
  let arg0 : BitVec 32 := BitVec.ofNat 32 (i 0).val
  let v228 : Index := Scalar.indexCast arg0
  let c25 : Index := 25#32
  ![v228.toNat, 25]
def k0_off27 (i : grid0.Coords) : Fin 2 → Nat :=
  let arg0 : BitVec 32 := BitVec.ofNat 32 (i 0).val
  let v237 : Index := Scalar.indexCast arg0
  let c26 : Index := 26#32
  ![v237.toNat, 26]
def k0_off28 (i : grid0.Coords) : Fin 2 → Nat :=
  let arg0 : BitVec 32 := BitVec.ofNat 32 (i 0).val
  let v246 : Index := Scalar.indexCast arg0
  let c27 : Index := 27#32
  ![v246.toNat, 27]
def k0_off29 (i : grid0.Coords) : Fin 2 → Nat :=
  let arg0 : BitVec 32 := BitVec.ofNat 32 (i 0).val
  let v255 : Index := Scalar.indexCast arg0
  let c28 : Index := 28#32
  ![v255.toNat, 28]
def k0_off30 (i : grid0.Coords) : Fin 2 → Nat :=
  let arg0 : BitVec 32 := BitVec.ofNat 32 (i 0).val
  let v264 : Index := Scalar.indexCast arg0
  let c29 : Index := 29#32
  ![v264.toNat, 29]
def k0_off31 (i : grid0.Coords) : Fin 2 → Nat :=
  let arg0 : BitVec 32 := BitVec.ofNat 32 (i 0).val
  let v273 : Index := Scalar.indexCast arg0
  let c30 : Index := 30#32
  ![v273.toNat, 30]
def k0_off32 (i : grid0.Coords) : Fin 2 → Nat :=
  let arg0 : BitVec 32 := BitVec.ofNat 32 (i 0).val
  let v282 : Index := Scalar.indexCast arg0
  let c31 : Index := 31#32
  ![v282.toNat, 31]
def k0_off33 (i : grid0.Coords) : Fin 2 → Nat :=
  let arg0 : BitVec 32 := BitVec.ofNat 32 (i 0).val
  let v291 : Index := Scalar.indexCast arg0
  let c32 : Index := 32#32
  ![v291.toNat, 32]
def k0_off34 (i : grid0.Coords) : Fin 2 → Nat :=
  let arg0 : BitVec 32 := BitVec.ofNat 32 (i 0).val
  let v300 : Index := Scalar.indexCast arg0
  let c33 : Index := 33#32
  ![v300.toNat, 33]
def k0_off35 (i : grid0.Coords) : Fin 2 → Nat :=
  let arg0 : BitVec 32 := BitVec.ofNat 32 (i 0).val
  let v309 : Index := Scalar.indexCast arg0
  let c34 : Index := 34#32
  ![v309.toNat, 34]
def k0_off36 (i : grid0.Coords) : Fin 2 → Nat :=
  let arg0 : BitVec 32 := BitVec.ofNat 32 (i 0).val
  let v318 : Index := Scalar.indexCast arg0
  let c35 : Index := 35#32
  ![v318.toNat, 35]
def k0_off37 (i : grid0.Coords) : Fin 2 → Nat :=
  let arg0 : BitVec 32 := BitVec.ofNat 32 (i 0).val
  let v327 : Index := Scalar.indexCast arg0
  let c36 : Index := 36#32
  ![v327.toNat, 36]
def k0_off38 (i : grid0.Coords) : Fin 2 → Nat :=
  let arg0 : BitVec 32 := BitVec.ofNat 32 (i 0).val
  let v336 : Index := Scalar.indexCast arg0
  let c37 : Index := 37#32
  ![v336.toNat, 37]
def k0_off39 (i : grid0.Coords) : Fin 2 → Nat :=
  let arg0 : BitVec 32 := BitVec.ofNat 32 (i 0).val
  let v345 : Index := Scalar.indexCast arg0
  let c38 : Index := 38#32
  ![v345.toNat, 38]
def k0_off40 (i : grid0.Coords) : Fin 2 → Nat :=
  let arg0 : BitVec 32 := BitVec.ofNat 32 (i 0).val
  let v354 : Index := Scalar.indexCast arg0
  let c39 : Index := 39#32
  ![v354.toNat, 39]
def k0_off41 (i : grid0.Coords) : Fin 2 → Nat :=
  let arg0 : BitVec 32 := BitVec.ofNat 32 (i 0).val
  let v363 : Index := Scalar.indexCast arg0
  let c40 : Index := 40#32
  ![v363.toNat, 40]
def k0_off42 (i : grid0.Coords) : Fin 2 → Nat :=
  let arg0 : BitVec 32 := BitVec.ofNat 32 (i 0).val
  let v372 : Index := Scalar.indexCast arg0
  let c41 : Index := 41#32
  ![v372.toNat, 41]
def k0_off43 (i : grid0.Coords) : Fin 2 → Nat :=
  let arg0 : BitVec 32 := BitVec.ofNat 32 (i 0).val
  let v381 : Index := Scalar.indexCast arg0
  let c42 : Index := 42#32
  ![v381.toNat, 42]
def k0_off44 (i : grid0.Coords) : Fin 2 → Nat :=
  let arg0 : BitVec 32 := BitVec.ofNat 32 (i 0).val
  let v390 : Index := Scalar.indexCast arg0
  let c43 : Index := 43#32
  ![v390.toNat, 43]
def k0_off45 (i : grid0.Coords) : Fin 2 → Nat :=
  let arg0 : BitVec 32 := BitVec.ofNat 32 (i 0).val
  let v399 : Index := Scalar.indexCast arg0
  let c44 : Index := 44#32
  ![v399.toNat, 44]
def k0_off46 (i : grid0.Coords) : Fin 2 → Nat :=
  let arg0 : BitVec 32 := BitVec.ofNat 32 (i 0).val
  let v408 : Index := Scalar.indexCast arg0
  let c45 : Index := 45#32
  ![v408.toNat, 45]
def k0_off47 (i : grid0.Coords) : Fin 2 → Nat :=
  let arg0 : BitVec 32 := BitVec.ofNat 32 (i 0).val
  let v417 : Index := Scalar.indexCast arg0
  let c46 : Index := 46#32
  ![v417.toNat, 46]
def k0_off48 (i : grid0.Coords) : Fin 2 → Nat :=
  let arg0 : BitVec 32 := BitVec.ofNat 32 (i 0).val
  let v426 : Index := Scalar.indexCast arg0
  let c47 : Index := 47#32
  ![v426.toNat, 47]
def k0_off49 (i : grid0.Coords) : Fin 2 → Nat :=
  let arg0 : BitVec 32 := BitVec.ofNat 32 (i 0).val
  let v435 : Index := Scalar.indexCast arg0
  let c48 : Index := 48#32
  ![v435.toNat, 48]
def k0_off50 (i : grid0.Coords) : Fin 2 → Nat :=
  let arg0 : BitVec 32 := BitVec.ofNat 32 (i 0).val
  let v444 : Index := Scalar.indexCast arg0
  let c49 : Index := 49#32
  ![v444.toNat, 49]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S80x50 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x6400 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x6400 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def k1_off1 (i : grid1.Coords) : Fin 2 → Nat :=
  let arg0 : BitVec 32 := BitVec.ofNat 32 (i 0).val
  let v2 : Index := Scalar.indexCast arg0
  let c0_1 : Index := 0#32
  ![v2.toNat, 0]
def k1_off2 (i : grid1.Coords) : Fin 2 → Nat :=
  let arg0 : BitVec 32 := BitVec.ofNat 32 (i 0).val
  let v10 : Index := Scalar.indexCast arg0
  let c1 : Index := 1#32
  ![v10.toNat, 1]
def k1_off3 (i : grid1.Coords) : Fin 2 → Nat :=
  let arg0 : BitVec 32 := BitVec.ofNat 32 (i 0).val
  let v18 : Index := Scalar.indexCast arg0
  let c2 : Index := 2#32
  ![v18.toNat, 2]
def k1_off4 (i : grid1.Coords) : Fin 2 → Nat :=
  let arg0 : BitVec 32 := BitVec.ofNat 32 (i 0).val
  let v26 : Index := Scalar.indexCast arg0
  let c3 : Index := 3#32
  ![v26.toNat, 3]
def k1_off5 (i : grid1.Coords) : Fin 2 → Nat :=
  let arg0 : BitVec 32 := BitVec.ofNat 32 (i 0).val
  let v34 : Index := Scalar.indexCast arg0
  let c4 : Index := 4#32
  ![v34.toNat, 4]
def k1_off6 (i : grid1.Coords) : Fin 2 → Nat :=
  let arg0 : BitVec 32 := BitVec.ofNat 32 (i 0).val
  let v42 : Index := Scalar.indexCast arg0
  let c5 : Index := 5#32
  ![v42.toNat, 5]
def k1_off7 (i : grid1.Coords) : Fin 2 → Nat :=
  let arg0 : BitVec 32 := BitVec.ofNat 32 (i 0).val
  let v50 : Index := Scalar.indexCast arg0
  let c6 : Index := 6#32
  ![v50.toNat, 6]
def k1_off8 (i : grid1.Coords) : Fin 2 → Nat :=
  let arg0 : BitVec 32 := BitVec.ofNat 32 (i 0).val
  let v58 : Index := Scalar.indexCast arg0
  let c7 : Index := 7#32
  ![v58.toNat, 7]
def k1_off9 (i : grid1.Coords) : Fin 2 → Nat :=
  let arg0 : BitVec 32 := BitVec.ofNat 32 (i 0).val
  let v66 : Index := Scalar.indexCast arg0
  let c8 : Index := 8#32
  ![v66.toNat, 8]
def k1_off10 (i : grid1.Coords) : Fin 2 → Nat :=
  let arg0 : BitVec 32 := BitVec.ofNat 32 (i 0).val
  let v74 : Index := Scalar.indexCast arg0
  let c9 : Index := 9#32
  ![v74.toNat, 9]
def k1_off11 (i : grid1.Coords) : Fin 2 → Nat :=
  let arg0 : BitVec 32 := BitVec.ofNat 32 (i 0).val
  let v82 : Index := Scalar.indexCast arg0
  let c10 : Index := 10#32
  ![v82.toNat, 10]
def k1_off12 (i : grid1.Coords) : Fin 2 → Nat :=
  let arg0 : BitVec 32 := BitVec.ofNat 32 (i 0).val
  let v90 : Index := Scalar.indexCast arg0
  let c11 : Index := 11#32
  ![v90.toNat, 11]
def k1_off13 (i : grid1.Coords) : Fin 2 → Nat :=
  let arg0 : BitVec 32 := BitVec.ofNat 32 (i 0).val
  let v98 : Index := Scalar.indexCast arg0
  let c12 : Index := 12#32
  ![v98.toNat, 12]
def k1_off14 (i : grid1.Coords) : Fin 2 → Nat :=
  let arg0 : BitVec 32 := BitVec.ofNat 32 (i 0).val
  let v106 : Index := Scalar.indexCast arg0
  let c13 : Index := 13#32
  ![v106.toNat, 13]
def k1_off15 (i : grid1.Coords) : Fin 2 → Nat :=
  let arg0 : BitVec 32 := BitVec.ofNat 32 (i 0).val
  let v114 : Index := Scalar.indexCast arg0
  let c14 : Index := 14#32
  ![v114.toNat, 14]
def k1_off16 (i : grid1.Coords) : Fin 2 → Nat :=
  let arg0 : BitVec 32 := BitVec.ofNat 32 (i 0).val
  let v122 : Index := Scalar.indexCast arg0
  let c15 : Index := 15#32
  ![v122.toNat, 15]
def k1_off17 (i : grid1.Coords) : Fin 2 → Nat :=
  let arg0 : BitVec 32 := BitVec.ofNat 32 (i 0).val
  let v130 : Index := Scalar.indexCast arg0
  let c16 : Index := 16#32
  ![v130.toNat, 16]
def k1_off18 (i : grid1.Coords) : Fin 2 → Nat :=
  let arg0 : BitVec 32 := BitVec.ofNat 32 (i 0).val
  let v138 : Index := Scalar.indexCast arg0
  let c17 : Index := 17#32
  ![v138.toNat, 17]
def k1_off19 (i : grid1.Coords) : Fin 2 → Nat :=
  let arg0 : BitVec 32 := BitVec.ofNat 32 (i 0).val
  let v146 : Index := Scalar.indexCast arg0
  let c18 : Index := 18#32
  ![v146.toNat, 18]
def k1_off20 (i : grid1.Coords) : Fin 2 → Nat :=
  let arg0 : BitVec 32 := BitVec.ofNat 32 (i 0).val
  let v154 : Index := Scalar.indexCast arg0
  let c19 : Index := 19#32
  ![v154.toNat, 19]
def k1_off21 (i : grid1.Coords) : Fin 2 → Nat :=
  let arg0 : BitVec 32 := BitVec.ofNat 32 (i 0).val
  let v162 : Index := Scalar.indexCast arg0
  let c20 : Index := 20#32
  ![v162.toNat, 20]
def k1_off22 (i : grid1.Coords) : Fin 2 → Nat :=
  let arg0 : BitVec 32 := BitVec.ofNat 32 (i 0).val
  let v170 : Index := Scalar.indexCast arg0
  let c21 : Index := 21#32
  ![v170.toNat, 21]
def k1_off23 (i : grid1.Coords) : Fin 2 → Nat :=
  let arg0 : BitVec 32 := BitVec.ofNat 32 (i 0).val
  let v178 : Index := Scalar.indexCast arg0
  let c22 : Index := 22#32
  ![v178.toNat, 22]
def k1_off24 (i : grid1.Coords) : Fin 2 → Nat :=
  let arg0 : BitVec 32 := BitVec.ofNat 32 (i 0).val
  let v186 : Index := Scalar.indexCast arg0
  let c23 : Index := 23#32
  ![v186.toNat, 23]
def k1_off25 (i : grid1.Coords) : Fin 2 → Nat :=
  let arg0 : BitVec 32 := BitVec.ofNat 32 (i 0).val
  let v194 : Index := Scalar.indexCast arg0
  let c24 : Index := 24#32
  ![v194.toNat, 24]
def k1_off26 (i : grid1.Coords) : Fin 2 → Nat :=
  let arg0 : BitVec 32 := BitVec.ofNat 32 (i 0).val
  let v202 : Index := Scalar.indexCast arg0
  let c25 : Index := 25#32
  ![v202.toNat, 25]
def k1_off27 (i : grid1.Coords) : Fin 2 → Nat :=
  let arg0 : BitVec 32 := BitVec.ofNat 32 (i 0).val
  let v210 : Index := Scalar.indexCast arg0
  let c26 : Index := 26#32
  ![v210.toNat, 26]
def k1_off28 (i : grid1.Coords) : Fin 2 → Nat :=
  let arg0 : BitVec 32 := BitVec.ofNat 32 (i 0).val
  let v218 : Index := Scalar.indexCast arg0
  let c27 : Index := 27#32
  ![v218.toNat, 27]
def k1_off29 (i : grid1.Coords) : Fin 2 → Nat :=
  let arg0 : BitVec 32 := BitVec.ofNat 32 (i 0).val
  let v226 : Index := Scalar.indexCast arg0
  let c28 : Index := 28#32
  ![v226.toNat, 28]
def k1_off30 (i : grid1.Coords) : Fin 2 → Nat :=
  let arg0 : BitVec 32 := BitVec.ofNat 32 (i 0).val
  let v234 : Index := Scalar.indexCast arg0
  let c29 : Index := 29#32
  ![v234.toNat, 29]
def k1_off31 (i : grid1.Coords) : Fin 2 → Nat :=
  let arg0 : BitVec 32 := BitVec.ofNat 32 (i 0).val
  let v242 : Index := Scalar.indexCast arg0
  let c30 : Index := 30#32
  ![v242.toNat, 30]
def k1_off32 (i : grid1.Coords) : Fin 2 → Nat :=
  let arg0 : BitVec 32 := BitVec.ofNat 32 (i 0).val
  let v250 : Index := Scalar.indexCast arg0
  let c31 : Index := 31#32
  ![v250.toNat, 31]
def k1_off33 (i : grid1.Coords) : Fin 2 → Nat :=
  let arg0 : BitVec 32 := BitVec.ofNat 32 (i 0).val
  let v258 : Index := Scalar.indexCast arg0
  let c32 : Index := 32#32
  ![v258.toNat, 32]
def k1_off34 (i : grid1.Coords) : Fin 2 → Nat :=
  let arg0 : BitVec 32 := BitVec.ofNat 32 (i 0).val
  let v266 : Index := Scalar.indexCast arg0
  let c33 : Index := 33#32
  ![v266.toNat, 33]
def k1_off35 (i : grid1.Coords) : Fin 2 → Nat :=
  let arg0 : BitVec 32 := BitVec.ofNat 32 (i 0).val
  let v274 : Index := Scalar.indexCast arg0
  let c34 : Index := 34#32
  ![v274.toNat, 34]
def k1_off36 (i : grid1.Coords) : Fin 2 → Nat :=
  let arg0 : BitVec 32 := BitVec.ofNat 32 (i 0).val
  let v282 : Index := Scalar.indexCast arg0
  let c35 : Index := 35#32
  ![v282.toNat, 35]
def k1_off37 (i : grid1.Coords) : Fin 2 → Nat :=
  let arg0 : BitVec 32 := BitVec.ofNat 32 (i 0).val
  let v290 : Index := Scalar.indexCast arg0
  let c36 : Index := 36#32
  ![v290.toNat, 36]
def k1_off38 (i : grid1.Coords) : Fin 2 → Nat :=
  let arg0 : BitVec 32 := BitVec.ofNat 32 (i 0).val
  let v298 : Index := Scalar.indexCast arg0
  let c37 : Index := 37#32
  ![v298.toNat, 37]
def k1_off39 (i : grid1.Coords) : Fin 2 → Nat :=
  let arg0 : BitVec 32 := BitVec.ofNat 32 (i 0).val
  let v306 : Index := Scalar.indexCast arg0
  let c38 : Index := 38#32
  ![v306.toNat, 38]
def k1_off40 (i : grid1.Coords) : Fin 2 → Nat :=
  let arg0 : BitVec 32 := BitVec.ofNat 32 (i 0).val
  let v314 : Index := Scalar.indexCast arg0
  let c39 : Index := 39#32
  ![v314.toNat, 39]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S50x40 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x5120 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x5120 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x40x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x5120 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x5120 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5120x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x40x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x5120 .fp8e5m2 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x5120 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![64, 25], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc4_transform_3 (i : grid4.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc4_transform_10 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage4_0 : Fin 2 → Memref sig .tc .vmem S512x5120 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x5120 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x5120x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S1x5120x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S256x5120 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S256x512 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1x512x256 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S1x512x256 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x2x512 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S1x2x512 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S1x2x512 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]

abbrev grid5 : Pipeline.Grid := ⟨3, ![2, 5, 32], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2560x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1024x1280 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2560x1280 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 5, 32], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2560x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x1280 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S2560x1280 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![5, 2, 32], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1280x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x2560 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1280x2560 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev grid8 : Pipeline.Grid := ⟨3, ![32, 2, 5], ![false, false, false]⟩

def k8_cond2 (i : grid8.Coords) : BitVec 1 :=
  let arg2 : BitVec 32 := BitVec.ofNat 32 (i 2).val
  let c4_i32 : BitVec 32 := 4#32
  let v23 : BitVec 1 := Scalar.cmpi .eq arg2 c4_i32
  let v24 : BitVec 32 := Scalar.extui v23
  let c0_i32_21 : BitVec 32 := 0#32
  let v25 : BitVec 1 := Scalar.cmpi .ne v24 c0_i32_21
  v25

def cc8_transform_0 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc8_transform_1 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc8_transform_2 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc8_transform_3 (i : grid8.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc8_transform_4 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1x1024x1280 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1x1024x1280 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true]

abbrev stage8_2 : Fin 2 → Memref sig .tc .vmem S1x2560x1280 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true]

abbrev stage8_3 : Fin 2 → Memref sig .tc .vmem S1x2560x1280 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true, true]

abbrev stage8_4 : Fin 2 → Memref sig .tc .vmem S1024x2560 .bf16 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, true, false]
-- ==== ReferenceIdeal.lean ====
abbrev S2x16384x5120 : Shape := ⟨3, ![2, 16384, 5120]⟩
abbrev S2x16384x40 : Shape := ⟨3, ![2, 16384, 40]⟩
abbrev S5120x2x6400 : Shape := ⟨3, ![5120, 2, 6400]⟩
abbrev S40x2x50 : Shape := ⟨3, ![40, 2, 50]⟩
abbrev S6400x5120 : Shape := ⟨2, ![6400, 5120]⟩
abbrev S50x40 : Shape := ⟨2, ![50, 40]⟩
abbrev S32768x40x128 : Shape := ⟨3, ![32768, 40, 128]⟩
abbrev S32768x40 : Shape := ⟨2, ![32768, 40]⟩
abbrev S32768x40x1 : Shape := ⟨3, ![32768, 40, 1]⟩
abbrev S32768x5120 : Shape := ⟨2, ![32768, 5120]⟩
abbrev S40x128x2x50x128 : Shape := ⟨5, ![40, 128, 2, 50, 128]⟩
abbrev S40x1x2x50x1 : Shape := ⟨5, ![40, 1, 2, 50, 1]⟩
abbrev S50x128x40x128 : Shape := ⟨4, ![50, 128, 40, 128]⟩
abbrev S50x1x40x1 : Shape := ⟨4, ![50, 1, 40, 1]⟩
abbrev S32768x2x6400 : Shape := ⟨3, ![32768, 2, 6400]⟩
abbrev S32768x1x6400 : Shape := ⟨3, ![32768, 1, 6400]⟩
abbrev S32768x6400 : Shape := ⟨2, ![32768, 6400]⟩
abbrev S_ : Shape := ⟨0, ![]⟩
abbrev S32768x50x128 : Shape := ⟨3, ![32768, 50, 128]⟩
abbrev S32768x50 : Shape := ⟨2, ![32768, 50]⟩
abbrev S32768x2x50x128 : Shape := ⟨4, ![32768, 2, 50, 128]⟩
abbrev S32768x2x50 : Shape := ⟨3, ![32768, 2, 50]⟩
abbrev S2x16384x50 : Shape := ⟨3, ![2, 16384, 50]⟩
abbrev S2x16384x2x50 : Shape := ⟨4, ![2, 16384, 2, 50]⟩

abbrev nBuf : Space → Nat
  | .hbm => 88
  | .vmem => 8
  | .smem => 0
  | _ => 0

abbrev bufTy : (tb : Table) → Fin (tcTables nBuf tb) → BufTy
  | .hbm, ⟨0, _⟩ => ⟨S2x16384x5120, .fp8e4m3⟩
  | .hbm, ⟨1, _⟩ => ⟨S2x16384x40, .f32⟩
  | .hbm, ⟨2, _⟩ => ⟨S2x16384x5120, .fp8e5m2⟩
  | .hbm, ⟨3, _⟩ => ⟨S2x16384x40, .f32⟩
  | .hbm, ⟨4, _⟩ => ⟨S5120x2x6400, .fp8e4m3⟩
  | .hbm, ⟨5, _⟩ => ⟨S40x2x50, .f32⟩
  | .hbm, ⟨6, _⟩ => ⟨S6400x5120, .fp8e4m3⟩
  | .hbm, ⟨7, _⟩ => ⟨S50x40, .f32⟩
  | .hbm, ⟨8, _⟩ => ⟨S2x16384x5120, .bf16⟩
  | .hbm, ⟨9, _⟩ => ⟨S2x16384x5120, .bf16⟩
  | .hbm, ⟨10, _⟩ => ⟨S5120x2x6400, .bf16⟩
  | .hbm, ⟨11, _⟩ => ⟨S6400x5120, .bf16⟩
  | .hbm, ⟨12, _⟩ => ⟨S32768x40x128, .bf16⟩
  | .hbm, ⟨13, _⟩ => ⟨S2x16384x40, .bf16⟩
  | .hbm, ⟨14, _⟩ => ⟨S32768x40, .bf16⟩
  | .hbm, ⟨15, _⟩ => ⟨S32768x40x1, .bf16⟩
  | .hbm, ⟨16, _⟩ => ⟨S32768x40x128, .bf16⟩
  | .hbm, ⟨17, _⟩ => ⟨S32768x40x128, .bf16⟩
  | .hbm, ⟨18, _⟩ => ⟨S32768x5120, .bf16⟩
  | .hbm, ⟨19, _⟩ => ⟨S32768x40x128, .bf16⟩
  | .hbm, ⟨20, _⟩ => ⟨S2x16384x40, .bf16⟩
  | .hbm, ⟨21, _⟩ => ⟨S32768x40, .bf16⟩
  | .hbm, ⟨22, _⟩ => ⟨S32768x40x1, .bf16⟩
  | .hbm, ⟨23, _⟩ => ⟨S32768x40x128, .bf16⟩
  | .hbm, ⟨24, _⟩ => ⟨S32768x40x128, .bf16⟩
  | .hbm, ⟨25, _⟩ => ⟨S32768x5120, .bf16⟩
  | .hbm, ⟨26, _⟩ => ⟨S40x128x2x50x128, .bf16⟩
  | .hbm, ⟨27, _⟩ => ⟨S40x2x50, .bf16⟩
  | .hbm, ⟨28, _⟩ => ⟨S40x1x2x50x1, .bf16⟩
  | .hbm, ⟨29, _⟩ => ⟨S40x128x2x50x128, .bf16⟩
  | .hbm, ⟨30, _⟩ => ⟨S40x128x2x50x128, .bf16⟩
  | .hbm, ⟨31, _⟩ => ⟨S5120x2x6400, .bf16⟩
  | .hbm, ⟨32, _⟩ => ⟨S50x128x40x128, .bf16⟩
  | .hbm, ⟨33, _⟩ => ⟨S50x40, .bf16⟩
  | .hbm, ⟨34, _⟩ => ⟨S50x1x40x1, .bf16⟩
  | .hbm, ⟨35, _⟩ => ⟨S50x128x40x128, .bf16⟩
  | .hbm, ⟨36, _⟩ => ⟨S50x128x40x128, .bf16⟩
  | .hbm, ⟨37, _⟩ => ⟨S6400x5120, .bf16⟩
  | .hbm, ⟨38, _⟩ => ⟨S32768x2x6400, .f32⟩
  | .hbm, ⟨39, _⟩ => ⟨S32768x1x6400, .f32⟩
  | .hbm, ⟨40, _⟩ => ⟨S32768x6400, .f32⟩
  | .hbm, ⟨41, _⟩ => ⟨S32768x1x6400, .f32⟩
  | .hbm, ⟨42, _⟩ => ⟨S32768x6400, .f32⟩
  | .hbm, ⟨43, _⟩ => ⟨S32768x6400, .f32⟩
  | .hbm, ⟨44, _⟩ => ⟨S32768x6400, .f32⟩
  | .hbm, ⟨45, _⟩ => ⟨S_, .f32⟩
  | .hbm, ⟨46, _⟩ => ⟨S32768x6400, .f32⟩
  | .hbm, ⟨47, _⟩ => ⟨S32768x6400, .f32⟩
  | .hbm, ⟨48, _⟩ => ⟨S_, .f32⟩
  | .hbm, ⟨49, _⟩ => ⟨S32768x6400, .f32⟩
  | .hbm, ⟨50, _⟩ => ⟨S32768x6400, .f32⟩
  | .hbm, ⟨51, _⟩ => ⟨S32768x6400, .f32⟩
  | .hbm, ⟨52, _⟩ => ⟨S32768x6400, .f32⟩
  | .hbm, ⟨53, _⟩ => ⟨S32768x6400, .bf16⟩
  | .hbm, ⟨54, _⟩ => ⟨S32768x6400, .f32⟩
  | .hbm, ⟨55, _⟩ => ⟨S32768x6400, .f32⟩
  | .hbm, ⟨56, _⟩ => ⟨S32768x50x128, .f32⟩
  | .hbm, ⟨57, _⟩ => ⟨S_, .f32⟩
  | .hbm, ⟨58, _⟩ => ⟨S32768x50, .f32⟩
  | .hbm, ⟨59, _⟩ => ⟨S32768x6400, .f32⟩
  | .hbm, ⟨60, _⟩ => ⟨S32768x6400, .f32⟩
  | .hbm, ⟨61, _⟩ => ⟨S32768x6400, .f32⟩
  | .hbm, ⟨62, _⟩ => ⟨S_, .f32⟩
  | .hbm, ⟨63, _⟩ => ⟨S32768x6400, .f32⟩
  | .hbm, ⟨64, _⟩ => ⟨S32768x6400, .f32⟩
  | .hbm, ⟨65, _⟩ => ⟨S32768x6400, .f32⟩
  | .hbm, ⟨66, _⟩ => ⟨S_, .f32⟩
  | .hbm, ⟨67, _⟩ => ⟨S32768x6400, .f32⟩
  | .hbm, ⟨68, _⟩ => ⟨S32768x6400, .f32⟩
  | .hbm, ⟨69, _⟩ => ⟨S32768x6400, .f32⟩
  | .hbm, ⟨70, _⟩ => ⟨S32768x6400, .f32⟩
  | .hbm, ⟨71, _⟩ => ⟨S32768x6400, .f32⟩
  | .hbm, ⟨72, _⟩ => ⟨S32768x1x6400, .f32⟩
  | .hbm, ⟨73, _⟩ => ⟨S32768x1x6400, .f32⟩
  | .hbm, ⟨74, _⟩ => ⟨S32768x2x6400, .f32⟩
  | .hbm, ⟨75, _⟩ => ⟨S32768x2x6400, .bf16⟩
  | .hbm, ⟨76, _⟩ => ⟨S32768x2x6400, .f32⟩
  | .hbm, ⟨77, _⟩ => ⟨S32768x2x6400, .f32⟩
  | .hbm, ⟨78, _⟩ => ⟨S32768x2x50x128, .f32⟩
  | .hbm, ⟨79, _⟩ => ⟨S_, .f32⟩
  | .hbm, ⟨80, _⟩ => ⟨S32768x2x50, .f32⟩
  | .hbm, ⟨81, _⟩ => ⟨S32768x5120, .f32⟩
  | .hbm, ⟨82, _⟩ => ⟨S32768x5120, .bf16⟩
  | .hbm, ⟨83, _⟩ => ⟨S5120x2x6400, .f32⟩
  | .hbm, ⟨84, _⟩ => ⟨S6400x5120, .f32⟩
  | .hbm, ⟨85, _⟩ => ⟨S2x16384x5120, .bf16⟩
  | .hbm, ⟨86, _⟩ => ⟨S2x16384x50, .f32⟩
  | .hbm, ⟨87, _⟩ => ⟨S2x16384x2x50, .f32⟩
  | .local _ .vmem, ⟨0, _⟩ => ⟨S2x16384x5120, .fp8e4m3⟩
  | .local _ .vmem, ⟨1, _⟩ => ⟨S2x16384x5120, .fp8e5m2⟩
  | .local _ .vmem, ⟨2, _⟩ => ⟨S5120x2x6400, .fp8e4m3⟩
  | .local _ .vmem, ⟨3, _⟩ => ⟨S6400x5120, .fp8e4m3⟩
  | .local _ .vmem, ⟨4, _⟩ => ⟨S2x16384x5120, .bf16⟩
  | .local _ .vmem, ⟨5, _⟩ => ⟨S2x16384x5120, .bf16⟩
  | .local _ .vmem, ⟨6, _⟩ => ⟨S5120x2x6400, .bf16⟩
  | .local _ .vmem, ⟨7, _⟩ => ⟨S6400x5120, .bf16⟩
  | _, _ => ⟨S2x16384x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_cst_0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_3 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_4 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x16384x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x5120 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x2x6400 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6400x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x16384x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x16384x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x2x6400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6400x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Frame.Region0.lean ====
/- REGION 0: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_dequant_weight` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the
    choice does not matter). -/
abbrev VO0_2 : View sig .tc .vmem S128x6400 .bf16 := (Memref.whole cc0_stg2_0 : Memref sig .tc .vmem S128x6400 .bf16).view
/-- Each window's current staging memref at point `t`, spelled as the pipeline passes it (`bodyAt0`), and its wholeness. -/
abbrev ms0_0 (t : Fin cfg0.N) : Memref sig .tc .smem S80x50 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x6400 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x6400 .bf16 := win0_2.stage (cfg0.slots t 2)
abbrev hs0_2 (t : Fin cfg0.N) : (ms0_2 t).IsWhole := hstage0_2 ((cfg0.slots t 2).cast nbuf0_2)

-- (the run's proof term is large: the definition's epilogue — `abstractNestedProofs` — walks it past the default budget)
set_option maxHeartbeats 1104000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S80x50 .f32) (harg1 : arg1.IsWhole) (arg2 : Memref sig .tc .vmem S128x6400 .fp8e4m3) (harg2 : arg2.IsWhole) (arg3 : Memref sig .tc .vmem S128x6400 .bf16) (harg3 : arg3.IsWhole)
    (x0 : Vec F S80x50 .f32) (x1 : Vec F S128x6400 .fp8e4m3) :
    { L2 : List (View.Piece (Elt F) S128x6400 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0_dequant_weight i arg1 harg1 arg2 harg2 arg3 harg3) K } := by
  refine ⟨?_, fun E K => ?run⟩
  case run =>
    simp only [cc0_dequant_weight_eq_skeleton]; unfold cc0_dequant_weight_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (50 stores of `S128x128`, checked by the kernel's evaluation: Lib/Ring.lean `Piece.tiledL`, linear in the pieces, through a loop's `@[irreducible]` trip theorem too), so they cover it. -/
theorem cover0_A_2 (c : Dev nD) (i : grid0.Coords) (arg1 : Memref sig .tc .smem S80x50 .f32) (harg1 : arg1.IsWhole) (arg2 : Memref sig .tc .vmem S128x6400 .fp8e4m3) (harg2 : arg2.IsWhole) (arg3 : Memref sig .tc .vmem S128x6400 .bf16) (harg3 : arg3.IsWhole)
    (x0 : Vec F S80x50 .f32) (x1 : Vec F S128x6400 .fp8e4m3) (y : S128x6400.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S128x128.size (by sl_kernel_rfl) y

/-- What the run leaves in output 2's staging buffer: its pieces read back over junk. -/
def out0_A_2 (c : Dev nD) (i : grid0.Coords) (arg1 : Memref sig .tc .smem S80x50 .f32) (harg1 : arg1.IsWhole) (arg2 : Memref sig .tc .vmem S128x6400 .fp8e4m3) (harg2 : arg2.IsWhole) (arg3 : Memref sig .tc .vmem S128x6400 .bf16) (harg3 : arg3.IsWhole)
    (x0 : Vec F S80x50 .f32) (x1 : Vec F S128x6400 .fp8e4m3) : Vec F S128x6400 .bf16 :=
  VO0_2.read (Elt F) (VO0_2.writes (Elt F) VO0_2.junk (kernelRun0_A c i arg1 harg1 arg2 harg2 arg3 harg3 x0 x1).1)

/-! ## What the outputs hold after each point -/

/-- What the outputs' staging buffers hold after the body at point `t`: the run's contents at
    the point's memrefs and input blocks. -/
def outsAt0 (c : Dev nD) (t : Fin cfg0.N) : Vec F S128x6400 .bf16 :=
  out0_A_2 c (grid0.coords t) (ms0_0 t) (hs0_0 t) (ms0_1 t) (hs0_1 t) (ms0_2 t) (hs0_2 t) (iblk0 V c 0 t) (iblk0 V c 1 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk0 V c 0 t) (iblk0 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
/- REGION 1: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_dequant_weight` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S128x5120 .bf16 := (Memref.whole cc1_stg2_0 : Memref sig .tc .vmem S128x5120 .bf16).view
/-- Each window's current staging memref at point `t`, spelled as the pipeline passes it (`bodyAt1`), and its wholeness. -/
abbrev ms1_0 (t : Fin cfg1.N) : Memref sig .tc .smem S50x40 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x5120 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x5120 .bf16 := win1_2.stage (cfg1.slots t 2)
abbrev hs1_2 (t : Fin cfg1.N) : (ms1_2 t).IsWhole := hstage1_2 ((cfg1.slots t 2).cast nbuf1_2)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S50x40 .f32) (harg1 : arg1.IsWhole) (arg2 : Memref sig .tc .vmem S128x5120 .fp8e4m3) (harg2 : arg2.IsWhole) (arg3 : Memref sig .tc .vmem S128x5120 .bf16) (harg3 : arg3.IsWhole)
    (x0 : Vec F S50x40 .f32) (x1 : Vec F S128x5120 .fp8e4m3) :
    { L2 : List (View.Piece (Elt F) S128x5120 .bf16) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1_dequant_weight i arg1 harg1 arg2 harg2 arg3 harg3) K } := by
  refine ⟨?_, fun E K => ?run⟩
  case run =>
    simp only [cc1_dequant_weight_eq_skeleton]; unfold cc1_dequant_weight_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

/-- The run's pieces for output 2 tile its block (40 stores of `S128x128`, checked by the kernel's evaluation: Lib/Ring.lean `Piece.tiledL`, linear in the pieces, through a loop's `@[irreducible]` trip theorem too), so they cover it. -/
theorem cover1_A_2 (c : Dev nD) (i : grid1.Coords) (arg1 : Memref sig .tc .smem S50x40 .f32) (harg1 : arg1.IsWhole) (arg2 : Memref sig .tc .vmem S128x5120 .fp8e4m3) (harg2 : arg2.IsWhole) (arg3 : Memref sig .tc .vmem S128x5120 .bf16) (harg3 : arg3.IsWhole)
    (x0 : Vec F S50x40 .f32) (x1 : Vec F S128x5120 .fp8e4m3) (y : S128x5120.Idx) :
    ∃ pc ∈ (kernelRun1_A c i arg1 harg1 arg2 harg2 arg3 harg3 x0 x1).1, y ∈ pc.1.set :=
  View.cover_of_tiledL (kernelRun1_A c i arg1 harg1 arg2 harg2 arg3 harg3 x0 x1).1 S128x128.size (by sl_kernel_rfl) y

/-- What the run leaves in output 2's staging buffer: its pieces read back over junk. -/
def out1_A_2 (c : Dev nD) (i : grid1.Coords) (arg1 : Memref sig .tc .smem S50x40 .f32) (harg1 : arg1.IsWhole) (arg2 : Memref sig .tc .vmem S128x5120 .fp8e4m3) (harg2 : arg2.IsWhole) (arg3 : Memref sig .tc .vmem S128x5120 .bf16) (harg3 : arg3.IsWhole)
    (x0 : Vec F S50x40 .f32) (x1 : Vec F S128x5120 .fp8e4m3) : Vec F S128x5120 .bf16 :=
  VO1_2.read (Elt F) (VO1_2.writes (Elt F) VO1_2.junk (kernelRun1_A c i arg1 harg1 arg2 harg2 arg3 harg3 x0 x1).1)

/-! ## What the outputs hold after each point -/

/-- What the outputs' staging buffers hold after the body at point `t`: the run's contents at
    the point's memrefs and input blocks. -/
def outsAt1 (c : Dev nD) (t : Fin cfg1.N) : Vec F S128x5120 .bf16 :=
  out1_A_2 c (grid1.coords t) (ms1_0 t) (hs1_0 t) (ms1_1 t) (hs1_1 t) (ms1_2 t) (hs1_2 t) (iblk1 V c 0 t) (iblk1 V c 1 t)

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold outsAt1
  unfold out1_A_2
  iintro ⟨HΦ, Ho, ⟨%d0, H0⟩, ⟨%d1, H1⟩, ⟨%d2, H2⟩⟩
  iapply ((kernelRun1_A c (grid1.coords t) _ _ _ _ _ _ (iblk1 V c 0 t) (iblk1 V c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover1_A_2 c _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Region2.lean ====
/- REGION 2: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_dequant_rows` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x40x512 := Rect.unit (s := S1x40x512) ![0, 0, 0] S1x40x512.size inb_S1x40x512_S1x40x512_0_0_0
abbrev r2_1 : Rect S512x5120 := Rect.unit (s := S512x5120) ![0, 0] S512x128.size inb_S512x5120_S512x128_0_0
abbrev r2_2 : Rect S5120x512 := Rect.unit (s := S5120x512) ![0, 0] S128x512.size inb_S5120x512_S128x512_0_0
abbrev r2_3 : Rect S512x5120 := Rect.unit (s := S512x5120) ![0, 128] S512x128.size inb_S512x5120_S512x128_0_128
abbrev r2_4 : Rect S5120x512 := Rect.unit (s := S5120x512) ![128, 0] S128x512.size inb_S5120x512_S128x512_128_0
abbrev r2_5 : Rect S512x5120 := Rect.unit (s := S512x5120) ![0, 256] S512x128.size inb_S512x5120_S512x128_0_256
abbrev r2_6 : Rect S5120x512 := Rect.unit (s := S5120x512) ![256, 0] S128x512.size inb_S5120x512_S128x512_256_0
abbrev r2_7 : Rect S512x5120 := Rect.unit (s := S512x5120) ![0, 384] S512x128.size inb_S512x5120_S512x128_0_384
abbrev r2_8 : Rect S5120x512 := Rect.unit (s := S5120x512) ![384, 0] S128x512.size inb_S5120x512_S128x512_384_0
abbrev r2_9 : Rect S512x5120 := Rect.unit (s := S512x5120) ![0, 512] S512x128.size inb_S512x5120_S512x128_0_512
abbrev r2_10 : Rect S5120x512 := Rect.unit (s := S5120x512) ![512, 0] S128x512.size inb_S5120x512_S128x512_512_0
abbrev r2_11 : Rect S512x5120 := Rect.unit (s := S512x5120) ![0, 640] S512x128.size inb_S512x5120_S512x128_0_640
abbrev r2_12 : Rect S5120x512 := Rect.unit (s := S5120x512) ![640, 0] S128x512.size inb_S5120x512_S128x512_640_0
abbrev r2_13 : Rect S512x5120 := Rect.unit (s := S512x5120) ![0, 768] S512x128.size inb_S512x5120_S512x128_0_768
abbrev r2_14 : Rect S5120x512 := Rect.unit (s := S5120x512) ![768, 0] S128x512.size inb_S5120x512_S128x512_768_0
abbrev r2_15 : Rect S512x5120 := Rect.unit (s := S512x5120) ![0, 896] S512x128.size inb_S512x5120_S512x128_0_896
abbrev r2_16 : Rect S5120x512 := Rect.unit (s := S5120x512) ![896, 0] S128x512.size inb_S5120x512_S128x512_896_0
abbrev r2_17 : Rect S512x5120 := Rect.unit (s := S512x5120) ![0, 1024] S512x128.size inb_S512x5120_S512x128_0_1024
abbrev r2_18 : Rect S5120x512 := Rect.unit (s := S5120x512) ![1024, 0] S128x512.size inb_S5120x512_S128x512_1024_0
abbrev r2_19 : Rect S512x5120 := Rect.unit (s := S512x5120) ![0, 1152] S512x128.size inb_S512x5120_S512x128_0_1152
abbrev r2_20 : Rect S5120x512 := Rect.unit (s := S5120x512) ![1152, 0] S128x512.size inb_S5120x512_S128x512_1152_0
abbrev r2_21 : Rect S512x5120 := Rect.unit (s := S512x5120) ![0, 1280] S512x128.size inb_S512x5120_S512x128_0_1280
abbrev r2_22 : Rect S5120x512 := Rect.unit (s := S5120x512) ![1280, 0] S128x512.size inb_S5120x512_S128x512_1280_0
abbrev r2_23 : Rect S512x5120 := Rect.unit (s := S512x5120) ![0, 1408] S512x128.size inb_S512x5120_S512x128_0_1408
abbrev r2_24 : Rect S5120x512 := Rect.unit (s := S5120x512) ![1408, 0] S128x512.size inb_S5120x512_S128x512_1408_0
abbrev r2_25 : Rect S512x5120 := Rect.unit (s := S512x5120) ![0, 1536] S512x128.size inb_S512x5120_S512x128_0_1536
abbrev r2_26 : Rect S5120x512 := Rect.unit (s := S5120x512) ![1536, 0] S128x512.size inb_S5120x512_S128x512_1536_0
abbrev r2_27 : Rect S512x5120 := Rect.unit (s := S512x5120) ![0, 1664] S512x128.size inb_S512x5120_S512x128_0_1664
abbrev r2_28 : Rect S5120x512 := Rect.unit (s := S5120x512) ![1664, 0] S128x512.size inb_S5120x512_S128x512_1664_0
abbrev r2_29 : Rect S512x5120 := Rect.unit (s := S512x5120) ![0, 1792] S512x128.size inb_S512x5120_S512x128_0_1792
abbrev r2_30 : Rect S5120x512 := Rect.unit (s := S5120x512) ![1792, 0] S128x512.size inb_S5120x512_S128x512_1792_0
abbrev r2_31 : Rect S512x5120 := Rect.unit (s := S512x5120) ![0, 1920] S512x128.size inb_S512x5120_S512x128_0_1920
abbrev r2_32 : Rect S5120x512 := Rect.unit (s := S5120x512) ![1920, 0] S128x512.size inb_S5120x512_S128x512_1920_0
abbrev r2_33 : Rect S512x5120 := Rect.unit (s := S512x5120) ![0, 2048] S512x128.size inb_S512x5120_S512x128_0_2048
abbrev r2_34 : Rect S5120x512 := Rect.unit (s := S5120x512) ![2048, 0] S128x512.size inb_S5120x512_S128x512_2048_0
abbrev r2_35 : Rect S512x5120 := Rect.unit (s := S512x5120) ![0, 2176] S512x128.size inb_S512x5120_S512x128_0_2176
abbrev r2_36 : Rect S5120x512 := Rect.unit (s := S5120x512) ![2176, 0] S128x512.size inb_S5120x512_S128x512_2176_0
abbrev r2_37 : Rect S512x5120 := Rect.unit (s := S512x5120) ![0, 2304] S512x128.size inb_S512x5120_S512x128_0_2304
abbrev r2_38 : Rect S5120x512 := Rect.unit (s := S5120x512) ![2304, 0] S128x512.size inb_S5120x512_S128x512_2304_0
abbrev r2_39 : Rect S512x5120 := Rect.unit (s := S512x5120) ![0, 2432] S512x128.size inb_S512x5120_S512x128_0_2432
abbrev r2_40 : Rect S5120x512 := Rect.unit (s := S5120x512) ![2432, 0] S128x512.size inb_S5120x512_S128x512_2432_0
abbrev r2_41 : Rect S512x5120 := Rect.unit (s := S512x5120) ![0, 2560] S512x128.size inb_S512x5120_S512x128_0_2560
abbrev r2_42 : Rect S5120x512 := Rect.unit (s := S5120x512) ![2560, 0] S128x512.size inb_S5120x512_S128x512_2560_0
abbrev r2_43 : Rect S512x5120 := Rect.unit (s := S512x5120) ![0, 2688] S512x128.size inb_S512x5120_S512x128_0_2688
abbrev r2_44 : Rect S5120x512 := Rect.unit (s := S5120x512) ![2688, 0] S128x512.size inb_S5120x512_S128x512_2688_0
abbrev r2_45 : Rect S512x5120 := Rect.unit (s := S512x5120) ![0, 2816] S512x128.size inb_S512x5120_S512x128_0_2816
abbrev r2_46 : Rect S5120x512 := Rect.unit (s := S5120x512) ![2816, 0] S128x512.size inb_S5120x512_S128x512_2816_0
abbrev r2_47 : Rect S512x5120 := Rect.unit (s := S512x5120) ![0, 2944] S512x128.size inb_S512x5120_S512x128_0_2944
abbrev r2_48 : Rect S5120x512 := Rect.unit (s := S5120x512) ![2944, 0] S128x512.size inb_S5120x512_S128x512_2944_0
abbrev r2_49 : Rect S512x5120 := Rect.unit (s := S512x5120) ![0, 3072] S512x128.size inb_S512x5120_S512x128_0_3072
abbrev r2_50 : Rect S5120x512 := Rect.unit (s := S5120x512) ![3072, 0] S128x512.size inb_S5120x512_S128x512_3072_0
abbrev r2_51 : Rect S512x5120 := Rect.unit (s := S512x5120) ![0, 3200] S512x128.size inb_S512x5120_S512x128_0_3200
abbrev r2_52 : Rect S5120x512 := Rect.unit (s := S5120x512) ![3200, 0] S128x512.size inb_S5120x512_S128x512_3200_0
abbrev r2_53 : Rect S512x5120 := Rect.unit (s := S512x5120) ![0, 3328] S512x128.size inb_S512x5120_S512x128_0_3328
abbrev r2_54 : Rect S5120x512 := Rect.unit (s := S5120x512) ![3328, 0] S128x512.size inb_S5120x512_S128x512_3328_0
abbrev r2_55 : Rect S512x5120 := Rect.unit (s := S512x5120) ![0, 3456] S512x128.size inb_S512x5120_S512x128_0_3456
abbrev r2_56 : Rect S5120x512 := Rect.unit (s := S5120x512) ![3456, 0] S128x512.size inb_S5120x512_S128x512_3456_0
abbrev r2_57 : Rect S512x5120 := Rect.unit (s := S512x5120) ![0, 3584] S512x128.size inb_S512x5120_S512x128_0_3584
abbrev r2_58 : Rect S5120x512 := Rect.unit (s := S5120x512) ![3584, 0] S128x512.size inb_S5120x512_S128x512_3584_0
abbrev r2_59 : Rect S512x5120 := Rect.unit (s := S512x5120) ![0, 3712] S512x128.size inb_S512x5120_S512x128_0_3712
abbrev r2_60 : Rect S5120x512 := Rect.unit (s := S5120x512) ![3712, 0] S128x512.size inb_S5120x512_S128x512_3712_0
abbrev r2_61 : Rect S512x5120 := Rect.unit (s := S512x5120) ![0, 3840] S512x128.size inb_S512x5120_S512x128_0_3840
abbrev r2_62 : Rect S5120x512 := Rect.unit (s := S5120x512) ![3840, 0] S128x512.size inb_S5120x512_S128x512_3840_0
abbrev r2_63 : Rect S512x5120 := Rect.unit (s := S512x5120) ![0, 3968] S512x128.size inb_S512x5120_S512x128_0_3968
abbrev r2_64 : Rect S5120x512 := Rect.unit (s := S5120x512) ![3968, 0] S128x512.size inb_S5120x512_S128x512_3968_0
abbrev r2_65 : Rect S512x5120 := Rect.unit (s := S512x5120) ![0, 4096] S512x128.size inb_S512x5120_S512x128_0_4096
abbrev r2_66 : Rect S5120x512 := Rect.unit (s := S5120x512) ![4096, 0] S128x512.size inb_S5120x512_S128x512_4096_0
abbrev r2_67 : Rect S512x5120 := Rect.unit (s := S512x5120) ![0, 4224] S512x128.size inb_S512x5120_S512x128_0_4224
abbrev r2_68 : Rect S5120x512 := Rect.unit (s := S5120x512) ![4224, 0] S128x512.size inb_S5120x512_S128x512_4224_0
abbrev r2_69 : Rect S512x5120 := Rect.unit (s := S512x5120) ![0, 4352] S512x128.size inb_S512x5120_S512x128_0_4352
abbrev r2_70 : Rect S5120x512 := Rect.unit (s := S5120x512) ![4352, 0] S128x512.size inb_S5120x512_S128x512_4352_0
abbrev r2_71 : Rect S512x5120 := Rect.unit (s := S512x5120) ![0, 4480] S512x128.size inb_S512x5120_S512x128_0_4480
abbrev r2_72 : Rect S5120x512 := Rect.unit (s := S5120x512) ![4480, 0] S128x512.size inb_S5120x512_S128x512_4480_0
abbrev r2_73 : Rect S512x5120 := Rect.unit (s := S512x5120) ![0, 4608] S512x128.size inb_S512x5120_S512x128_0_4608
abbrev r2_74 : Rect S5120x512 := Rect.unit (s := S5120x512) ![4608, 0] S128x512.size inb_S5120x512_S128x512_4608_0
abbrev r2_75 : Rect S512x5120 := Rect.unit (s := S512x5120) ![0, 4736] S512x128.size inb_S512x5120_S512x128_0_4736
abbrev r2_76 : Rect S5120x512 := Rect.unit (s := S5120x512) ![4736, 0] S128x512.size inb_S5120x512_S128x512_4736_0
abbrev r2_77 : Rect S512x5120 := Rect.unit (s := S512x5120) ![0, 4864] S512x128.size inb_S512x5120_S512x128_0_4864
abbrev r2_78 : Rect S5120x512 := Rect.unit (s := S5120x512) ![4864, 0] S128x512.size inb_S5120x512_S128x512_4864_0
abbrev r2_79 : Rect S512x5120 := Rect.unit (s := S512x5120) ![0, 4992] S512x128.size inb_S512x5120_S512x128_0_4992
abbrev r2_80 : Rect S5120x512 := Rect.unit (s := S5120x512) ![4992, 0] S128x512.size inb_S5120x512_S128x512_4992_0

/-! ## What the body leaves in each output window's buffer -/

/-! ### Values of the body that the stores' payloads, spelt out, would write more than once

    Each is a vector the body binds (often a part call's result), stated over the input windows' blocks and
    numbered on from the skeleton's payload functions (`k2_pay89` …, after `k2_pay88`), so that
    `out2_W` and the values after it name it instead of spelling it out; the comment after each is the printed function's
    name for the value (a count appended where that name is bound again). -/

def k2_pay89 (x0 : Vec F S1x40x512 .f32) (x1 : Vec F S512x5120 .fp8e4m3) : FVec F S512x40 .f32 :=
  k2_pay6 (View.ld x0 r2_0) -- `v2`
def k2_pay90 (x0 : Vec F S1x40x512 .f32) (x1 : Vec F S512x5120 .fp8e4m3) : FVec F S512x1 .f32 :=
  k2_pay25 (k2_pay89 x0 x1) -- `v103`
def k2_pay91 (x0 : Vec F S1x40x512 .f32) (x1 : Vec F S512x5120 .fp8e4m3) : FVec F S512x128 .bf16 :=
  k2_pay32 (k2_pay89 x0 x1) -- `v138`
def k2_pay92 (x0 : Vec F S1x40x512 .f32) (x1 : Vec F S512x5120 .fp8e4m3) : FVec F S512x128 .bf16 :=
  k2_pay39 (k2_pay89 x0 x1) -- `v171`
def k2_pay93 (x0 : Vec F S1x40x512 .f32) (x1 : Vec F S512x5120 .fp8e4m3) : FVec F S512x128 .fp8e4m3 :=
  k2_pay40 (View.ld x1 r2_31) -- `v173`
def k2_pay94 (x0 : Vec F S1x40x512 .f32) (x1 : Vec F S512x5120 .fp8e4m3) : FVec F S512x128 .bf16 :=
  k2_pay47 (k2_pay89 x0 x1) (View.ld x1 r2_37) -- `v208`
def k2_pay95 (x0 : Vec F S1x40x512 .f32) (x1 : Vec F S512x5120 .fp8e4m3) : FVec F S512x1 .f32 :=
  k2_pay67 (k2_pay89 x0 x1) -- `v311`
def k2_pay96 (x0 : Vec F S1x40x512 .f32) (x1 : Vec F S512x5120 .fp8e4m3) : FVec F S512x128 .bf16 :=
  k2_pay74 (k2_pay89 x0 x1) -- `v347`
def k2_pay97 (x0 : Vec F S1x40x512 .f32) (x1 : Vec F S512x5120 .fp8e4m3) : FVec F S512x128 .bf16 :=
  k2_pay81 (k2_pay89 x0 x1) -- `v380`
def k2_pay98 (x0 : Vec F S1x40x512 .f32) (x1 : Vec F S512x5120 .fp8e4m3) : FVec F S512x128 .bf16 :=
  k2_pay88 (k2_pay89 x0 x1) (View.ld x1 r2_75) -- `v417`

/-- Window 2's staging buffer after the body, from the input windows' blocks: its 40 stores as pieces, LAST
    FIRST (Lib/Pipeline/FrameBody.lean `View.canon`; the payloads are the skeleton's and the values stated above). -/
def out2_2 (x0 : Vec F S1x40x512 .f32) (x1 : Vec F S512x5120 .fp8e4m3) : Vec F S512x5120 .bf16 :=
  View.canon [⟨r2_79, k2_pay4 (k2_pay89 x0 x1) (View.ld x1 r2_79)⟩,
    ⟨r2_77, k2_pay2 (k2_pay89 x0 x1) (View.ld x1 r2_77)⟩,
    ⟨r2_75, k2_pay98 x0 x1⟩,
    ⟨r2_73, k2_pay86 (k2_pay89 x0 x1) (View.ld x1 r2_73)⟩,
    ⟨r2_71, k2_pay84 (k2_pay89 x0 x1) (View.ld x1 r2_71)⟩,
    ⟨r2_69, k2_pay82 (k2_pay97 x0 x1) (View.ld x1 r2_69)⟩,
    ⟨r2_67, k2_pay79 (k2_pay89 x0 x1) (View.ld x1 r2_67)⟩,
    ⟨r2_65, k2_pay77 (k2_pay89 x0 x1) (View.ld x1 r2_65)⟩,
    ⟨r2_63, k2_pay75 (k2_pay96 x0 x1) (View.ld x1 r2_63)⟩,
    ⟨r2_61, k2_pay72 (k2_pay89 x0 x1) (View.ld x1 r2_61)⟩,
    ⟨r2_59, k2_pay70 (k2_pay89 x0 x1) (View.ld x1 r2_59)⟩,
    ⟨r2_57, k2_pay68 (k2_pay95 x0 x1) (View.ld x1 r2_57)⟩,
    ⟨r2_55, k2_pay65 (k2_pay89 x0 x1) (View.ld x1 r2_55)⟩,
    ⟨r2_53, k2_pay63 (k2_pay89 x0 x1) (View.ld x1 r2_53)⟩,
    ⟨r2_51, k2_pay61 (k2_pay89 x0 x1) (View.ld x1 r2_51)⟩,
    ⟨r2_49, k2_pay59 (k2_pay89 x0 x1) (View.ld x1 r2_49)⟩,
    ⟨r2_47, k2_pay57 (k2_pay89 x0 x1) (View.ld x1 r2_47)⟩,
    ⟨r2_45, k2_pay55 (k2_pay89 x0 x1) (View.ld x1 r2_45)⟩,
    ⟨r2_43, k2_pay53 (k2_pay89 x0 x1) (View.ld x1 r2_43)⟩,
    ⟨r2_41, k2_pay51 (k2_pay89 x0 x1) (View.ld x1 r2_41)⟩,
    ⟨r2_39, k2_pay49 (k2_pay89 x0 x1) (View.ld x1 r2_39)⟩,
    ⟨r2_37, k2_pay94 x0 x1⟩,
    ⟨r2_35, k2_pay45 (k2_pay89 x0 x1) (View.ld x1 r2_35)⟩,
    ⟨r2_33, k2_pay43 (k2_pay89 x0 x1) (View.ld x1 r2_33)⟩,
    ⟨r2_31, k2_pay41 (k2_pay92 x0 x1) (k2_pay93 x0 x1)⟩,
    ⟨r2_29, k2_pay37 (k2_pay89 x0 x1) (View.ld x1 r2_29)⟩,
    ⟨r2_27, k2_pay35 (k2_pay89 x0 x1) (View.ld x1 r2_27)⟩,
    ⟨r2_25, k2_pay33 (k2_pay91 x0 x1) (View.ld x1 r2_25)⟩,
    ⟨r2_23, k2_pay30 (k2_pay89 x0 x1) (View.ld x1 r2_23)⟩,
    ⟨r2_21, k2_pay28 (k2_pay89 x0 x1) (View.ld x1 r2_21)⟩,
    ⟨r2_19, k2_pay26 (k2_pay90 x0 x1) (View.ld x1 r2_19)⟩,
    ⟨r2_17, k2_pay23 (k2_pay89 x0 x1) (View.ld x1 r2_17)⟩,
    ⟨r2_15, k2_pay21 (k2_pay89 x0 x1) (View.ld x1 r2_15)⟩,
    ⟨r2_13, k2_pay19 (k2_pay89 x0 x1) (View.ld x1 r2_13)⟩,
    ⟨r2_11, k2_pay17 (k2_pay89 x0 x1) (View.ld x1 r2_11)⟩,
    ⟨r2_9, k2_pay15 (k2_pay89 x0 x1) (View.ld x1 r2_9)⟩,
    ⟨r2_7, k2_pay13 (k2_pay89 x0 x1) (View.ld x1 r2_7)⟩,
    ⟨r2_5, k2_pay11 (View.ld x0 r2_0) (View.ld x1 r2_5)⟩,
    ⟨r2_3, k2_pay9 (View.ld x0 r2_0) (View.ld x1 r2_3)⟩,
    ⟨r2_1, k2_pay7 (View.ld x0 r2_0) (View.ld x1 r2_1)⟩]

/-- Its stores tile the buffer (checked by evaluation), so they cover it. -/
theorem cover2_2 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (p16 : Vec F S512x128 .bf16) (p17 : Vec F S512x128 .bf16) (p18 : Vec F S512x128 .bf16) (p19 : Vec F S512x128 .bf16) (p20 : Vec F S512x128 .bf16) (p21 : Vec F S512x128 .bf16) (p22 : Vec F S512x128 .bf16) (p23 : Vec F S512x128 .bf16) (p24 : Vec F S512x128 .bf16) (p25 : Vec F S512x128 .bf16) (p26 : Vec F S512x128 .bf16) (p27 : Vec F S512x128 .bf16) (p28 : Vec F S512x128 .bf16) (p29 : Vec F S512x128 .bf16) (p30 : Vec F S512x128 .bf16) (p31 : Vec F S512x128 .bf16) (p32 : Vec F S512x128 .bf16) (p33 : Vec F S512x128 .bf16) (p34 : Vec F S512x128 .bf16) (p35 : Vec F S512x128 .bf16) (p36 : Vec F S512x128 .bf16) (p37 : Vec F S512x128 .bf16) (p38 : Vec F S512x128 .bf16) (p39 : Vec F S512x128 .bf16) (y : S512x5120.Idx) :
    ∃ pc ∈ ([⟨r2_79, p0⟩, ⟨r2_77, p1⟩, ⟨r2_75, p2⟩, ⟨r2_73, p3⟩, ⟨r2_71, p4⟩, ⟨r2_69, p5⟩, ⟨r2_67, p6⟩, ⟨r2_65, p7⟩, ⟨r2_63, p8⟩, ⟨r2_61, p9⟩, ⟨r2_59, p10⟩, ⟨r2_57, p11⟩, ⟨r2_55, p12⟩, ⟨r2_53, p13⟩, ⟨r2_51, p14⟩, ⟨r2_49, p15⟩, ⟨r2_47, p16⟩, ⟨r2_45, p17⟩, ⟨r2_43, p18⟩, ⟨r2_41, p19⟩, ⟨r2_39, p20⟩, ⟨r2_37, p21⟩, ⟨r2_35, p22⟩, ⟨r2_33, p23⟩, ⟨r2_31, p24⟩, ⟨r2_29, p25⟩, ⟨r2_27, p26⟩, ⟨r2_25, p27⟩, ⟨r2_23, p28⟩, ⟨r2_21, p29⟩, ⟨r2_19, p30⟩, ⟨r2_17, p31⟩, ⟨r2_15, p32⟩, ⟨r2_13, p33⟩, ⟨r2_11, p34⟩, ⟨r2_9, p35⟩, ⟨r2_7, p36⟩, ⟨r2_5, p37⟩, ⟨r2_3, p38⟩, ⟨r2_1, p39⟩] : List (View.Piece (Elt F) S512x5120 .bf16)), y ∈ pc.1.set :=
  View.cover_of_tiled [⟨r2_79, p0⟩, ⟨r2_77, p1⟩, ⟨r2_75, p2⟩, ⟨r2_73, p3⟩, ⟨r2_71, p4⟩, ⟨r2_69, p5⟩, ⟨r2_67, p6⟩, ⟨r2_65, p7⟩, ⟨r2_63, p8⟩, ⟨r2_61, p9⟩, ⟨r2_59, p10⟩, ⟨r2_57, p11⟩, ⟨r2_55, p12⟩, ⟨r2_53, p13⟩, ⟨r2_51, p14⟩, ⟨r2_49, p15⟩, ⟨r2_47, p16⟩, ⟨r2_45, p17⟩, ⟨r2_43, p18⟩, ⟨r2_41, p19⟩, ⟨r2_39, p20⟩, ⟨r2_37, p21⟩, ⟨r2_35, p22⟩, ⟨r2_33, p23⟩, ⟨r2_31, p24⟩, ⟨r2_29, p25⟩, ⟨r2_27, p26⟩, ⟨r2_25, p27⟩, ⟨r2_23, p28⟩, ⟨r2_21, p29⟩, ⟨r2_19, p30⟩, ⟨r2_17, p31⟩, ⟨r2_15, p32⟩, ⟨r2_13, p33⟩, ⟨r2_11, p34⟩, ⟨r2_9, p35⟩, ⟨r2_7, p36⟩, ⟨r2_5, p37⟩, ⟨r2_3, p38⟩, ⟨r2_1, p39⟩] S512x128.size (by rfl) y

/-- Window 3's staging buffer after the body, from the input windows' blocks: its 40 stores as pieces, LAST
    FIRST (Lib/Pipeline/FrameBody.lean `View.canon`; the payloads are the skeleton's and the values stated above). -/
def out2_3 (x0 : Vec F S1x40x512 .f32) (x1 : Vec F S512x5120 .fp8e4m3) : Vec F S5120x512 .bf16 :=
  View.canon [⟨r2_80, k2_pay5 (k2_pay89 x0 x1) (View.ld x1 r2_79)⟩,
    ⟨r2_78, k2_pay3 (k2_pay89 x0 x1) (View.ld x1 r2_77)⟩,
    ⟨r2_76, k2_pay1 (k2_pay98 x0 x1)⟩,
    ⟨r2_74, k2_pay87 (k2_pay89 x0 x1) (View.ld x1 r2_73)⟩,
    ⟨r2_72, k2_pay85 (k2_pay89 x0 x1) (View.ld x1 r2_71)⟩,
    ⟨r2_70, k2_pay83 (k2_pay97 x0 x1) (View.ld x1 r2_69)⟩,
    ⟨r2_68, k2_pay80 (k2_pay89 x0 x1) (View.ld x1 r2_67)⟩,
    ⟨r2_66, k2_pay78 (k2_pay89 x0 x1) (View.ld x1 r2_65)⟩,
    ⟨r2_64, k2_pay76 (k2_pay96 x0 x1) (View.ld x1 r2_63)⟩,
    ⟨r2_62, k2_pay73 (k2_pay89 x0 x1) (View.ld x1 r2_61)⟩,
    ⟨r2_60, k2_pay71 (k2_pay89 x0 x1) (View.ld x1 r2_59)⟩,
    ⟨r2_58, k2_pay69 (k2_pay95 x0 x1) (View.ld x1 r2_57)⟩,
    ⟨r2_56, k2_pay66 (k2_pay89 x0 x1) (View.ld x1 r2_55)⟩,
    ⟨r2_54, k2_pay64 (k2_pay89 x0 x1) (View.ld x1 r2_53)⟩,
    ⟨r2_52, k2_pay62 (k2_pay89 x0 x1) (View.ld x1 r2_51)⟩,
    ⟨r2_50, k2_pay60 (k2_pay89 x0 x1) (View.ld x1 r2_49)⟩,
    ⟨r2_48, k2_pay58 (k2_pay89 x0 x1) (View.ld x1 r2_47)⟩,
    ⟨r2_46, k2_pay56 (k2_pay89 x0 x1) (View.ld x1 r2_45)⟩,
    ⟨r2_44, k2_pay54 (k2_pay53 (k2_pay89 x0 x1) (View.ld x1 r2_43))⟩,
    ⟨r2_42, k2_pay52 (k2_pay89 x0 x1) (View.ld x1 r2_41)⟩,
    ⟨r2_40, k2_pay50 (k2_pay89 x0 x1) (View.ld x1 r2_39)⟩,
    ⟨r2_38, k2_pay48 (k2_pay94 x0 x1)⟩,
    ⟨r2_36, k2_pay46 (k2_pay89 x0 x1) (View.ld x1 r2_35)⟩,
    ⟨r2_34, k2_pay44 (k2_pay89 x0 x1) (View.ld x1 r2_33)⟩,
    ⟨r2_32, k2_pay42 (k2_pay92 x0 x1) (k2_pay93 x0 x1)⟩,
    ⟨r2_30, k2_pay38 (k2_pay89 x0 x1) (View.ld x1 r2_29)⟩,
    ⟨r2_28, k2_pay36 (k2_pay89 x0 x1) (View.ld x1 r2_27)⟩,
    ⟨r2_26, k2_pay34 (k2_pay91 x0 x1) (View.ld x1 r2_25)⟩,
    ⟨r2_24, k2_pay31 (k2_pay89 x0 x1) (View.ld x1 r2_23)⟩,
    ⟨r2_22, k2_pay29 (k2_pay89 x0 x1) (View.ld x1 r2_21)⟩,
    ⟨r2_20, k2_pay27 (k2_pay90 x0 x1) (View.ld x1 r2_19)⟩,
    ⟨r2_18, k2_pay24 (k2_pay89 x0 x1) (View.ld x1 r2_17)⟩,
    ⟨r2_16, k2_pay22 (k2_pay89 x0 x1) (View.ld x1 r2_15)⟩,
    ⟨r2_14, k2_pay20 (k2_pay89 x0 x1) (View.ld x1 r2_13)⟩,
    ⟨r2_12, k2_pay18 (k2_pay89 x0 x1) (View.ld x1 r2_11)⟩,
    ⟨r2_10, k2_pay16 (k2_pay89 x0 x1) (View.ld x1 r2_9)⟩,
    ⟨r2_8, k2_pay14 (k2_pay89 x0 x1) (View.ld x1 r2_7)⟩,
    ⟨r2_6, k2_pay12 (View.ld x0 r2_0) (View.ld x1 r2_5)⟩,
    ⟨r2_4, k2_pay10 (View.ld x0 r2_0) (View.ld x1 r2_3)⟩,
    ⟨r2_2, k2_pay8 (View.ld x0 r2_0) (View.ld x1 r2_1)⟩]

/-- Its stores tile the buffer (checked by evaluation), so they cover it. -/
theorem cover2_3 (p0 : Vec F S128x512 .bf16) (p1 : Vec F S128x512 .bf16) (p2 : Vec F S128x512 .bf16) (p3 : Vec F S128x512 .bf16) (p4 : Vec F S128x512 .bf16) (p5 : Vec F S128x512 .bf16) (p6 : Vec F S128x512 .bf16) (p7 : Vec F S128x512 .bf16) (p8 : Vec F S128x512 .bf16) (p9 : Vec F S128x512 .bf16) (p10 : Vec F S128x512 .bf16) (p11 : Vec F S128x512 .bf16) (p12 : Vec F S128x512 .bf16) (p13 : Vec F S128x512 .bf16) (p14 : Vec F S128x512 .bf16) (p15 : Vec F S128x512 .bf16) (p16 : Vec F S128x512 .bf16) (p17 : Vec F S128x512 .bf16) (p18 : Vec F S128x512 .bf16) (p19 : Vec F S128x512 .bf16) (p20 : Vec F S128x512 .bf16) (p21 : Vec F S128x512 .bf16) (p22 : Vec F S128x512 .bf16) (p23 : Vec F S128x512 .bf16) (p24 : Vec F S128x512 .bf16) (p25 : Vec F S128x512 .bf16) (p26 : Vec F S128x512 .bf16) (p27 : Vec F S128x512 .bf16) (p28 : Vec F S128x512 .bf16) (p29 : Vec F S128x512 .bf16) (p30 : Vec F S128x512 .bf16) (p31 : Vec F S128x512 .bf16) (p32 : Vec F S128x512 .bf16) (p33 : Vec F S128x512 .bf16) (p34 : Vec F S128x512 .bf16) (p35 : Vec F S128x512 .bf16) (p36 : Vec F S128x512 .bf16) (p37 : Vec F S128x512 .bf16) (p38 : Vec F S128x512 .bf16) (p39 : Vec F S128x512 .bf16) (y : S5120x512.Idx) :
    ∃ pc ∈ ([⟨r2_80, p0⟩, ⟨r2_78, p1⟩, ⟨r2_76, p2⟩, ⟨r2_74, p3⟩, ⟨r2_72, p4⟩, ⟨r2_70, p5⟩, ⟨r2_68, p6⟩, ⟨r2_66, p7⟩, ⟨r2_64, p8⟩, ⟨r2_62, p9⟩, ⟨r2_60, p10⟩, ⟨r2_58, p11⟩, ⟨r2_56, p12⟩, ⟨r2_54, p13⟩, ⟨r2_52, p14⟩, ⟨r2_50, p15⟩, ⟨r2_48, p16⟩, ⟨r2_46, p17⟩, ⟨r2_44, p18⟩, ⟨r2_42, p19⟩, ⟨r2_40, p20⟩, ⟨r2_38, p21⟩, ⟨r2_36, p22⟩, ⟨r2_34, p23⟩, ⟨r2_32, p24⟩, ⟨r2_30, p25⟩, ⟨r2_28, p26⟩, ⟨r2_26, p27⟩, ⟨r2_24, p28⟩, ⟨r2_22, p29⟩, ⟨r2_20, p30⟩, ⟨r2_18, p31⟩, ⟨r2_16, p32⟩, ⟨r2_14, p33⟩, ⟨r2_12, p34⟩, ⟨r2_10, p35⟩, ⟨r2_8, p36⟩, ⟨r2_6, p37⟩, ⟨r2_4, p38⟩, ⟨r2_2, p39⟩] : List (View.Piece (Elt F) S5120x512 .bf16)), y ∈ pc.1.set :=
  View.cover_of_tiled [⟨r2_80, p0⟩, ⟨r2_78, p1⟩, ⟨r2_76, p2⟩, ⟨r2_74, p3⟩, ⟨r2_72, p4⟩, ⟨r2_70, p5⟩, ⟨r2_68, p6⟩, ⟨r2_66, p7⟩, ⟨r2_64, p8⟩, ⟨r2_62, p9⟩, ⟨r2_60, p10⟩, ⟨r2_58, p11⟩, ⟨r2_56, p12⟩, ⟨r2_54, p13⟩, ⟨r2_52, p14⟩, ⟨r2_50, p15⟩, ⟨r2_48, p16⟩, ⟨r2_46, p17⟩, ⟨r2_44, p18⟩, ⟨r2_42, p19⟩, ⟨r2_40, p20⟩, ⟨r2_38, p21⟩, ⟨r2_36, p22⟩, ⟨r2_34, p23⟩, ⟨r2_32, p24⟩, ⟨r2_30, p25⟩, ⟨r2_28, p26⟩, ⟨r2_26, p27⟩, ⟨r2_24, p28⟩, ⟨r2_22, p29⟩, ⟨r2_20, p30⟩, ⟨r2_18, p31⟩, ⟨r2_16, p32⟩, ⟨r2_14, p33⟩, ⟨r2_12, p34⟩, ⟨r2_10, p35⟩, ⟨r2_8, p36⟩, ⟨r2_6, p37⟩, ⟨r2_4, p38⟩, ⟨r2_2, p39⟩] S128x512.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S1x40x512 .f32) (harg1 : arg1.IsWhole) (arg2 : Memref sig .tc .vmem S512x5120 .fp8e4m3) (harg2 : arg2.IsWhole) (arg3 : Memref sig .tc .vmem S512x5120 .bf16) (harg3 : arg3.IsWhole) (arg4 : Memref sig .tc .vmem S5120x512 .bf16) (harg4 : arg4.IsWhole)
    (x0 : Vec F S1x40x512 .f32) (x1 : Vec F S512x5120 .fp8e4m3) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2_dequant_rows i arg1 harg1 arg2 harg2 arg3 harg3 arg4 harg4) K := by
  simp only [cc2_dequant_rows_eq_skeleton]; unfold cc2_dequant_rows_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover2_2 _ _ _ _ _ _ _ _ _ _ _ _ _ _ _ _ _ _ _ _ _ _ _ _ _ _ _ _ _ _ _ _ _ _ _ _ _ _ _ _)).trans ?_
    rfl
  iexists _; isplitr
  swap; · iexact H3
  ipureintro
  refine (View.read_writes_eq_canon _ _ _ (cover2_3 _ _ _ _ _ _ _ _ _ _ _ _ _ _ _ _ _ _ _ _ _ _ _ _ _ _ _ _ _ _ _ _ _ _ _ _ _ _ _ _)).trans ?_
  rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Region3.lean ====
/- REGION 3: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3_dequant_rows` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x40x512 := Rect.unit (s := S1x40x512) ![0, 0, 0] S1x40x512.size inb_S1x40x512_S1x40x512_0_0_0
abbrev r3_1 : Rect S512x5120 := Rect.unit (s := S512x5120) ![0, 0] S512x128.size inb_S512x5120_S512x128_0_0
abbrev r3_2 : Rect S512x5120 := Rect.unit (s := S512x5120) ![0, 128] S512x128.size inb_S512x5120_S512x128_0_128
abbrev r3_3 : Rect S512x5120 := Rect.unit (s := S512x5120) ![0, 256] S512x128.size inb_S512x5120_S512x128_0_256
abbrev r3_4 : Rect S512x5120 := Rect.unit (s := S512x5120) ![0, 384] S512x128.size inb_S512x5120_S512x128_0_384
abbrev r3_5 : Rect S512x5120 := Rect.unit (s := S512x5120) ![0, 512] S512x128.size inb_S512x5120_S512x128_0_512
abbrev r3_6 : Rect S512x5120 := Rect.unit (s := S512x5120) ![0, 640] S512x128.size inb_S512x5120_S512x128_0_640
abbrev r3_7 : Rect S512x5120 := Rect.unit (s := S512x5120) ![0, 768] S512x128.size inb_S512x5120_S512x128_0_768
abbrev r3_8 : Rect S512x5120 := Rect.unit (s := S512x5120) ![0, 896] S512x128.size inb_S512x5120_S512x128_0_896
abbrev r3_9 : Rect S512x5120 := Rect.unit (s := S512x5120) ![0, 1024] S512x128.size inb_S512x5120_S512x128_0_1024
abbrev r3_10 : Rect S512x5120 := Rect.unit (s := S512x5120) ![0, 1152] S512x128.size inb_S512x5120_S512x128_0_1152
abbrev r3_11 : Rect S512x5120 := Rect.unit (s := S512x5120) ![0, 1280] S512x128.size inb_S512x5120_S512x128_0_1280
abbrev r3_12 : Rect S512x5120 := Rect.unit (s := S512x5120) ![0, 1408] S512x128.size inb_S512x5120_S512x128_0_1408
abbrev r3_13 : Rect S512x5120 := Rect.unit (s := S512x5120) ![0, 1536] S512x128.size inb_S512x5120_S512x128_0_1536
abbrev r3_14 : Rect S512x5120 := Rect.unit (s := S512x5120) ![0, 1664] S512x128.size inb_S512x5120_S512x128_0_1664
abbrev r3_15 : Rect S512x5120 := Rect.unit (s := S512x5120) ![0, 1792] S512x128.size inb_S512x5120_S512x128_0_1792
abbrev r3_16 : Rect S512x5120 := Rect.unit (s := S512x5120) ![0, 1920] S512x128.size inb_S512x5120_S512x128_0_1920
abbrev r3_17 : Rect S512x5120 := Rect.unit (s := S512x5120) ![0, 2048] S512x128.size inb_S512x5120_S512x128_0_2048
abbrev r3_18 : Rect S512x5120 := Rect.unit (s := S512x5120) ![0, 2176] S512x128.size inb_S512x5120_S512x128_0_2176
abbrev r3_19 : Rect S512x5120 := Rect.unit (s := S512x5120) ![0, 2304] S512x128.size inb_S512x5120_S512x128_0_2304
abbrev r3_20 : Rect S512x5120 := Rect.unit (s := S512x5120) ![0, 2432] S512x128.size inb_S512x5120_S512x128_0_2432
abbrev r3_21 : Rect S512x5120 := Rect.unit (s := S512x5120) ![0, 2560] S512x128.size inb_S512x5120_S512x128_0_2560
abbrev r3_22 : Rect S512x5120 := Rect.unit (s := S512x5120) ![0, 2688] S512x128.size inb_S512x5120_S512x128_0_2688
abbrev r3_23 : Rect S512x5120 := Rect.unit (s := S512x5120) ![0, 2816] S512x128.size inb_S512x5120_S512x128_0_2816
abbrev r3_24 : Rect S512x5120 := Rect.unit (s := S512x5120) ![0, 2944] S512x128.size inb_S512x5120_S512x128_0_2944
abbrev r3_25 : Rect S512x5120 := Rect.unit (s := S512x5120) ![0, 3072] S512x128.size inb_S512x5120_S512x128_0_3072
abbrev r3_26 : Rect S512x5120 := Rect.unit (s := S512x5120) ![0, 3200] S512x128.size inb_S512x5120_S512x128_0_3200
abbrev r3_27 : Rect S512x5120 := Rect.unit (s := S512x5120) ![0, 3328] S512x128.size inb_S512x5120_S512x128_0_3328
abbrev r3_28 : Rect S512x5120 := Rect.unit (s := S512x5120) ![0, 3456] S512x128.size inb_S512x5120_S512x128_0_3456
abbrev r3_29 : Rect S512x5120 := Rect.unit (s := S512x5120) ![0, 3584] S512x128.size inb_S512x5120_S512x128_0_3584
abbrev r3_30 : Rect S512x5120 := Rect.unit (s := S512x5120) ![0, 3712] S512x128.size inb_S512x5120_S512x128_0_3712
abbrev r3_31 : Rect S512x5120 := Rect.unit (s := S512x5120) ![0, 3840] S512x128.size inb_S512x5120_S512x128_0_3840
abbrev r3_32 : Rect S512x5120 := Rect.unit (s := S512x5120) ![0, 3968] S512x128.size inb_S512x5120_S512x128_0_3968
abbrev r3_33 : Rect S512x5120 := Rect.unit (s := S512x5120) ![0, 4096] S512x128.size inb_S512x5120_S512x128_0_4096
abbrev r3_34 : Rect S512x5120 := Rect.unit (s := S512x5120) ![0, 4224] S512x128.size inb_S512x5120_S512x128_0_4224
abbrev r3_35 : Rect S512x5120 := Rect.unit (s := S512x5120) ![0, 4352] S512x128.size inb_S512x5120_S512x128_0_4352
abbrev r3_36 : Rect S512x5120 := Rect.unit (s := S512x5120) ![0, 4480] S512x128.size inb_S512x5120_S512x128_0_4480
abbrev r3_37 : Rect S512x5120 := Rect.unit (s := S512x5120) ![0, 4608] S512x128.size inb_S512x5120_S512x128_0_4608
abbrev r3_38 : Rect S512x5120 := Rect.unit (s := S512x5120) ![0, 4736] S512x128.size inb_S512x5120_S512x128_0_4736
abbrev r3_39 : Rect S512x5120 := Rect.unit (s := S512x5120) ![0, 4864] S512x128.size inb_S512x5120_S512x128_0_4864
abbrev r3_40 : Rect S512x5120 := Rect.unit (s := S512x5120) ![0, 4992] S512x128.size inb_S512x5120_S512x128_0_4992

/-! ## What the body leaves in each output window's buffer -/

/-! ### Values of the body that the stores' payloads, spelt out, would write more than once

    Each is a vector the body binds (often a part call's result), stated over the input windows' blocks and
    numbered on from the skeleton's payload functions (`k3_pay49` …, after `k3_pay48`), so that
    `out3_W` and the values after it name it instead of spelling it out; the comment after each is the printed function's
    name for the value (a count appended where that name is bound again). -/

def k3_pay49 (x0 : Vec F S1x40x512 .f32) (x1 : Vec F S512x5120 .fp8e5m2) : FVec F S512x40 .f32 :=
  k3_pay3 (View.ld x0 r3_0) -- `v2`

/-- Window 2's staging buffer after the body, from the input windows' blocks: its 40 stores as pieces, LAST
    FIRST (Lib/Pipeline/FrameBody.lean `View.canon`; the payloads are the skeleton's and the values stated above). -/
def out3_2 (x0 : Vec F S1x40x512 .f32) (x1 : Vec F S512x5120 .fp8e5m2) : Vec F S512x5120 .bf16 :=
  View.canon [⟨r3_40, k3_pay2 (k3_pay49 x0 x1) (View.ld x1 r3_40)⟩,
    ⟨r3_39, k3_pay1 (k3_pay48 (k3_pay49 x0 x1)) (View.ld x1 r3_39)⟩,
    ⟨r3_38, k3_pay47 (k3_pay49 x0 x1) (View.ld x1 r3_38)⟩,
    ⟨r3_37, k3_pay46 (k3_pay49 x0 x1) (View.ld x1 r3_37)⟩,
    ⟨r3_36, k3_pay45 (k3_pay49 x0 x1) (View.ld x1 r3_36)⟩,
    ⟨r3_35, k3_pay44 (k3_pay49 x0 x1) (View.ld x1 r3_35)⟩,
    ⟨r3_34, k3_pay43 (k3_pay49 x0 x1) (View.ld x1 r3_34)⟩,
    ⟨r3_33, k3_pay42 (k3_pay49 x0 x1) (View.ld x1 r3_33)⟩,
    ⟨r3_32, k3_pay41 (k3_pay49 x0 x1) (View.ld x1 r3_32)⟩,
    ⟨r3_31, k3_pay40 (k3_pay49 x0 x1) (View.ld x1 r3_31)⟩,
    ⟨r3_30, k3_pay39 (k3_pay38 (k3_pay49 x0 x1)) (View.ld x1 r3_30)⟩,
    ⟨r3_29, k3_pay37 (k3_pay49 x0 x1) (View.ld x1 r3_29)⟩,
    ⟨r3_28, k3_pay36 (k3_pay49 x0 x1) (View.ld x1 r3_28)⟩,
    ⟨r3_27, k3_pay35 (k3_pay49 x0 x1) (View.ld x1 r3_27)⟩,
    ⟨r3_26, k3_pay34 (k3_pay33 (k3_pay49 x0 x1)) (View.ld x1 r3_26)⟩,
    ⟨r3_25, k3_pay32 (k3_pay49 x0 x1) (View.ld x1 r3_25)⟩,
    ⟨r3_24, k3_pay31 (k3_pay49 x0 x1) (View.ld x1 r3_24)⟩,
    ⟨r3_23, k3_pay30 (k3_pay49 x0 x1) (View.ld x1 r3_23)⟩,
    ⟨r3_22, k3_pay29 (k3_pay49 x0 x1) (View.ld x1 r3_22)⟩,
    ⟨r3_21, k3_pay28 (k3_pay49 x0 x1) (View.ld x1 r3_21)⟩,
    ⟨r3_20, k3_pay27 (k3_pay49 x0 x1) (View.ld x1 r3_20)⟩,
    ⟨r3_19, k3_pay26 (k3_pay49 x0 x1) (View.ld x1 r3_19)⟩,
    ⟨r3_18, k3_pay25 (k3_pay49 x0 x1) (View.ld x1 r3_18)⟩,
    ⟨r3_17, k3_pay24 (k3_pay22 (k3_pay49 x0 x1)) (k3_pay23 (View.ld x1 r3_17))⟩,
    ⟨r3_16, k3_pay21 (k3_pay49 x0 x1) (View.ld x1 r3_16)⟩,
    ⟨r3_15, k3_pay20 (k3_pay49 x0 x1) (View.ld x1 r3_15)⟩,
    ⟨r3_14, k3_pay19 (k3_pay49 x0 x1) (View.ld x1 r3_14)⟩,
    ⟨r3_13, k3_pay18 (k3_pay17 (k3_pay49 x0 x1)) (View.ld x1 r3_13)⟩,
    ⟨r3_12, k3_pay16 (k3_pay49 x0 x1) (View.ld x1 r3_12)⟩,
    ⟨r3_11, k3_pay15 (k3_pay49 x0 x1) (View.ld x1 r3_11)⟩,
    ⟨r3_10, k3_pay14 (k3_pay49 x0 x1) (View.ld x1 r3_10)⟩,
    ⟨r3_9, k3_pay13 (k3_pay12 (k3_pay49 x0 x1)) (View.ld x1 r3_9)⟩,
    ⟨r3_8, k3_pay11 (k3_pay49 x0 x1) (View.ld x1 r3_8)⟩,
    ⟨r3_7, k3_pay10 (k3_pay49 x0 x1) (View.ld x1 r3_7)⟩,
    ⟨r3_6, k3_pay9 (k3_pay49 x0 x1) (View.ld x1 r3_6)⟩,
    ⟨r3_5, k3_pay8 (k3_pay49 x0 x1) (View.ld x1 r3_5)⟩,
    ⟨r3_4, k3_pay7 (View.ld x0 r3_0) (View.ld x1 r3_4)⟩,
    ⟨r3_3, k3_pay6 (View.ld x0 r3_0) (View.ld x1 r3_3)⟩,
    ⟨r3_2, k3_pay5 (View.ld x0 r3_0) (View.ld x1 r3_2)⟩,
    ⟨r3_1, k3_pay4 (View.ld x0 r3_0) (View.ld x1 r3_1)⟩]

/-- Its stores tile the buffer (checked by evaluation), so they cover it. -/
theorem cover3_2 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (p16 : Vec F S512x128 .bf16) (p17 : Vec F S512x128 .bf16) (p18 : Vec F S512x128 .bf16) (p19 : Vec F S512x128 .bf16) (p20 : Vec F S512x128 .bf16) (p21 : Vec F S512x128 .bf16) (p22 : Vec F S512x128 .bf16) (p23 : Vec F S512x128 .bf16) (p24 : Vec F S512x128 .bf16) (p25 : Vec F S512x128 .bf16) (p26 : Vec F S512x128 .bf16) (p27 : Vec F S512x128 .bf16) (p28 : Vec F S512x128 .bf16) (p29 : Vec F S512x128 .bf16) (p30 : Vec F S512x128 .bf16) (p31 : Vec F S512x128 .bf16) (p32 : Vec F S512x128 .bf16) (p33 : Vec F S512x128 .bf16) (p34 : Vec F S512x128 .bf16) (p35 : Vec F S512x128 .bf16) (p36 : Vec F S512x128 .bf16) (p37 : Vec F S512x128 .bf16) (p38 : Vec F S512x128 .bf16) (p39 : Vec F S512x128 .bf16) (y : S512x5120.Idx) :
    ∃ pc ∈ ([⟨r3_40, p0⟩, ⟨r3_39, p1⟩, ⟨r3_38, p2⟩, ⟨r3_37, p3⟩, ⟨r3_36, p4⟩, ⟨r3_35, p5⟩, ⟨r3_34, p6⟩, ⟨r3_33, p7⟩, ⟨r3_32, p8⟩, ⟨r3_31, p9⟩, ⟨r3_30, p10⟩, ⟨r3_29, p11⟩, ⟨r3_28, p12⟩, ⟨r3_27, p13⟩, ⟨r3_26, p14⟩, ⟨r3_25, p15⟩, ⟨r3_24, p16⟩, ⟨r3_23, p17⟩, ⟨r3_22, p18⟩, ⟨r3_21, p19⟩, ⟨r3_20, p20⟩, ⟨r3_19, p21⟩, ⟨r3_18, p22⟩, ⟨r3_17, p23⟩, ⟨r3_16, p24⟩, ⟨r3_15, p25⟩, ⟨r3_14, p26⟩, ⟨r3_13, p27⟩, ⟨r3_12, p28⟩, ⟨r3_11, p29⟩, ⟨r3_10, p30⟩, ⟨r3_9, p31⟩, ⟨r3_8, p32⟩, ⟨r3_7, p33⟩, ⟨r3_6, p34⟩, ⟨r3_5, p35⟩, ⟨r3_4, p36⟩, ⟨r3_3, p37⟩, ⟨r3_2, p38⟩, ⟨r3_1, p39⟩] : List (View.Piece (Elt F) S512x5120 .bf16)), y ∈ pc.1.set :=
  View.cover_of_tiled [⟨r3_40, p0⟩, ⟨r3_39, p1⟩, ⟨r3_38, p2⟩, ⟨r3_37, p3⟩, ⟨r3_36, p4⟩, ⟨r3_35, p5⟩, ⟨r3_34, p6⟩, ⟨r3_33, p7⟩, ⟨r3_32, p8⟩, ⟨r3_31, p9⟩, ⟨r3_30, p10⟩, ⟨r3_29, p11⟩, ⟨r3_28, p12⟩, ⟨r3_27, p13⟩, ⟨r3_26, p14⟩, ⟨r3_25, p15⟩, ⟨r3_24, p16⟩, ⟨r3_23, p17⟩, ⟨r3_22, p18⟩, ⟨r3_21, p19⟩, ⟨r3_20, p20⟩, ⟨r3_19, p21⟩, ⟨r3_18, p22⟩, ⟨r3_17, p23⟩, ⟨r3_16, p24⟩, ⟨r3_15, p25⟩, ⟨r3_14, p26⟩, ⟨r3_13, p27⟩, ⟨r3_12, p28⟩, ⟨r3_11, p29⟩, ⟨r3_10, p30⟩, ⟨r3_9, p31⟩, ⟨r3_8, p32⟩, ⟨r3_7, p33⟩, ⟨r3_6, p34⟩, ⟨r3_5, p35⟩, ⟨r3_4, p36⟩, ⟨r3_3, p37⟩, ⟨r3_2, p38⟩, ⟨r3_1, p39⟩] S512x128.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg1 : Memref sig .tc .vmem S1x40x512 .f32) (harg1 : arg1.IsWhole) (arg2 : Memref sig .tc .vmem S512x5120 .fp8e5m2) (harg2 : arg2.IsWhole) (arg3 : Memref sig .tc .vmem S512x5120 .bf16) (harg3 : arg3.IsWhole)
    (x0 : Vec F S1x40x512 .f32) (x1 : Vec F S512x5120 .fp8e5m2) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3_dequant_rows i arg1 harg1 arg2 harg2 arg3 harg3) K := by
  simp only [cc3_dequant_rows_eq_skeleton]; unfold cc3_dequant_rows_skel
  simp only [k3_part1_eq_skeleton, k3_part2_eq_skeleton, k3_part3_eq_skeleton, k3_part4_eq_skeleton, k3_part5_eq_skeleton, k3_part6_eq_skeleton, k3_part7_eq_skeleton, k3_part8_eq_skeleton, k3_part9_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover3_2 _ _ _ _ _ _ _ _ _ _ _ _ _ _ _ _ _ _ _ _ _ _ _ _ _ _ _ _ _ _ _ _ _ _ _ _ _ _ _ _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Frame.Region4.lean ====
/- REGION 4: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_hidden` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x5120 := Rect.unit (s := S512x5120) ![0, 0] S512x5120.size inb_S512x5120_S512x5120_0_0
abbrev r4_1 : Rect S1x5120x256 := Rect.unit (s := S1x5120x256) ![0, 0, 0] S1x5120x256.size inb_S1x5120x256_S1x5120x256_0_0_0
abbrev r4_2 : Rect S256x5120 := Rect.unit (s := S256x5120) ![0, 0] S256x5120.size inb_S256x5120_S256x5120_0_0
abbrev r4_3 : Rect S1x512x256 := Rect.unit (s := S1x512x256) ![0, 0, 0] S1x512x256.size inb_S1x512x256_S1x512x256_0_0_0
abbrev r4_4 : Rect S256x512 := Rect.unit (s := S256x512) ![0, 0] S256x512.size inb_S256x512_S256x512_0_0
abbrev r4_5 : Rect S1x2x512 := Rect.unit (s := S1x2x512) ![0, 0, 0] S1x2x512.size inb_S1x2x512_S1x2x512_0_0_0

/-! ## What the body leaves in each output window's buffer -/

/-! ### Values of the body that the stores' payloads, spelt out, would write more than once

    Each is a vector the body binds (often a part call's result), stated over the input windows' blocks and
    numbered on from the skeleton's payload functions (`k4_pay15` …, after `k4_pay14`), so that
    `out4_W` and the values after it name it instead of spelling it out; the comment after each is the printed function's
    name for the value (a count appended where that name is bound again). -/

def k4_pay15 (x0 : Vec F S512x5120 .bf16) (x1 : Vec F S512x5120 .bf16) (x2 : Vec F S1x5120x256 .bf16) (x3 : Vec F S1x5120x256 .bf16) (x4 : Vec F S256x5120 .bf16) : FVec F S512x256 .bf16 :=
  k4_pay11 (View.ld x0 r4_0) (View.ld x2 r4_1) (View.ld x3 r4_1) -- `v16`
def k4_pay16 (x0 : Vec F S512x5120 .bf16) (x1 : Vec F S512x5120 .bf16) (x2 : Vec F S1x5120x256 .bf16) (x3 : Vec F S1x5120x256 .bf16) (x4 : Vec F S256x5120 .bf16) : FVec F S512x256 .bf16 :=
  k4_pay13 (View.ld x0 r4_0) (View.ld x2 r4_1) (View.ld x1 r4_0) (View.ld x4 r4_2) -- `v28`

/-- Window 5's staging buffer after the body, from the input windows' blocks: its 1 store as pieces, LAST
    FIRST (Lib/Pipeline/FrameBody.lean `View.canon`; the payloads are the skeleton's and the values stated above). -/
def out4_5 (x0 : Vec F S512x5120 .bf16) (x1 : Vec F S512x5120 .bf16) (x2 : Vec F S1x5120x256 .bf16) (x3 : Vec F S1x5120x256 .bf16) (x4 : Vec F S256x5120 .bf16) : Vec F S256x512 .bf16 :=
  View.canon [⟨r4_4, k4_pay2 (k4_pay15 x0 x1 x2 x3 x4)⟩]

/-- Its stores tile the buffer (checked by evaluation), so they cover it. -/
theorem cover4_5 (p0 : Vec F S256x512 .bf16) (y : S256x512.Idx) :
    ∃ pc ∈ ([⟨r4_4, p0⟩] : List (View.Piece (Elt F) S256x512 .bf16)), y ∈ pc.1.set :=
  View.cover_of_tiled [⟨r4_4, p0⟩] S256x512.size (by rfl) y

/-- Window 6's staging buffer after the body, from the input windows' blocks: its 1 store as pieces, LAST
    FIRST (Lib/Pipeline/FrameBody.lean `View.canon`; the payloads are the skeleton's and the values stated above). -/
def out4_6 (x0 : Vec F S512x5120 .bf16) (x1 : Vec F S512x5120 .bf16) (x2 : Vec F S1x5120x256 .bf16) (x3 : Vec F S1x5120x256 .bf16) (x4 : Vec F S256x5120 .bf16) : Vec F S1x512x256 .bf16 :=
  View.canon [⟨r4_3, k4_pay14 (View.ld x0 r4_0) (View.ld x2 r4_1) (View.ld x3 r4_1) (View.ld x1 r4_0) (View.ld x4 r4_2)⟩]

/-- Its stores tile the buffer (checked by evaluation), so they cover it. -/
theorem cover4_6 (p0 : Vec F S1x512x256 .bf16) (y : S1x512x256.Idx) :
    ∃ pc ∈ ([⟨r4_3, p0⟩] : List (View.Piece (Elt F) S1x512x256 .bf16)), y ∈ pc.1.set :=
  View.cover_of_tiled [⟨r4_3, p0⟩] S1x512x256.size (by rfl) y

/-- Window 7's staging buffer after the body, from the input windows' blocks: its 1 store as pieces, LAST
    FIRST (Lib/Pipeline/FrameBody.lean `View.canon`; the payloads are the skeleton's and the values stated above). -/
def out4_7 (x0 : Vec F S512x5120 .bf16) (x1 : Vec F S512x5120 .bf16) (x2 : Vec F S1x5120x256 .bf16) (x3 : Vec F S1x5120x256 .bf16) (x4 : Vec F S256x5120 .bf16) : Vec F S1x512x256 .bf16 :=
  View.canon [⟨r4_3, k4_pay1 (k4_pay16 x0 x1 x2 x3 x4)⟩]

/-- Its stores tile the buffer (checked by evaluation), so they cover it. -/
theorem cover4_7 (p0 : Vec F S1x512x256 .bf16) (y : S1x512x256.Idx) :
    ∃ pc ∈ ([⟨r4_3, p0⟩] : List (View.Piece (Elt F) S1x512x256 .bf16)), y ∈ pc.1.set :=
  View.cover_of_tiled [⟨r4_3, p0⟩] S1x512x256.size (by rfl) y

/-- Window 8's staging buffer after the body, from the input windows' blocks: its 1 store as pieces, LAST
    FIRST (Lib/Pipeline/FrameBody.lean `View.canon`; the payloads are the skeleton's and the values stated above). -/
def out4_8 (x0 : Vec F S512x5120 .bf16) (x1 : Vec F S512x5120 .bf16) (x2 : Vec F S1x5120x256 .bf16) (x3 : Vec F S1x5120x256 .bf16) (x4 : Vec F S256x5120 .bf16) : Vec F S1x2x512 .f32 :=
  View.canon [⟨r4_5, k4_pay3 (k4_pay15 x0 x1 x2 x3 x4)⟩]

/-- Its stores tile the buffer (checked by evaluation), so they cover it. -/
theorem cover4_8 (p0 : Vec F S1x2x512 .f32) (y : S1x2x512.Idx) :
    ∃ pc ∈ ([⟨r4_5, p0⟩] : List (View.Piece (Elt F) S1x2x512 .f32)), y ∈ pc.1.set :=
  View.cover_of_tiled [⟨r4_5, p0⟩] S1x2x512.size (by rfl) y

/-- Window 9's staging buffer after the body, from the input windows' blocks: its 1 store as pieces, LAST
    FIRST (Lib/Pipeline/FrameBody.lean `View.canon`; the payloads are the skeleton's and the values stated above). -/
def out4_9 (x0 : Vec F S512x5120 .bf16) (x1 : Vec F S512x5120 .bf16) (x2 : Vec F S1x5120x256 .bf16) (x3 : Vec F S1x5120x256 .bf16) (x4 : Vec F S256x5120 .bf16) : Vec F S1x2x512 .f32 :=
  View.canon [⟨r4_5, k4_pay4 (k4_pay12 (View.ld x0 r4_0) (View.ld x2 r4_1) (View.ld x3 r4_1) (View.ld x1 r4_0) (View.ld x4 r4_2))⟩]

/-- Its stores tile the buffer (checked by evaluation), so they cover it. -/
theorem cover4_9 (p0 : Vec F S1x2x512 .f32) (y : S1x2x512.Idx) :
    ∃ pc ∈ ([⟨r4_5, p0⟩] : List (View.Piece (Elt F) S1x2x512 .f32)), y ∈ pc.1.set :=
  View.cover_of_tiled [⟨r4_5, p0⟩] S1x2x512.size (by rfl) y

/-- Window 10's staging buffer after the body, from the input windows' blocks: its 1 store as pieces, LAST
    FIRST (Lib/Pipeline/FrameBody.lean `View.canon`; the payloads are the skeleton's and the values stated above). -/
def out4_10 (x0 : Vec F S512x5120 .bf16) (x1 : Vec F S512x5120 .bf16) (x2 : Vec F S1x5120x256 .bf16) (x3 : Vec F S1x5120x256 .bf16) (x4 : Vec F S256x5120 .bf16) : Vec F S1x2x512 .f32 :=
  View.canon [⟨r4_5, k4_pay5 (k4_pay16 x0 x1 x2 x3 x4)⟩]

/-- Its stores tile the buffer (checked by evaluation), so they cover it. -/
theorem cover4_10 (p0 : Vec F S1x2x512 .f32) (y : S1x2x512.Idx) :
    ∃ pc ∈ ([⟨r4_5, p0⟩] : List (View.Piece (Elt F) S1x2x512 .f32)), y ∈ pc.1.set :=
  View.cover_of_tiled [⟨r4_5, p0⟩] S1x2x512.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are their skeletons (`Gen.*_eq_skeleton`), which `sl_exec` runs (Lib/Exec.lean), through every part call. -/
theorem sound_kernel4 (c : Dev nD) (E : Set ℕ) (i : grid4.Coords) (arg2 : Memref sig .tc .vmem S512x5120 .bf16) (harg2 : arg2.IsWhole) (arg3 : Memref sig .tc .vmem S512x5120 .bf16) (harg3 : arg3.IsWhole) (arg4 : Memref sig .tc .vmem S1x5120x256 .bf16) (harg4 : arg4.IsWhole) (arg5 : Memref sig .tc .vmem S1x5120x256 .bf16) (harg5 : arg5.IsWhole) (arg6 : Memref sig .tc .vmem S256x5120 .bf16) (harg6 : arg6.IsWhole) (arg7 : Memref sig .tc .vmem S256x512 .bf16) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S1x2x512 .f32) (harg10 : arg10.IsWhole) (arg11 : Memref sig .tc .vmem S1x2x512 .f32) (harg11 : arg11.IsWhole) (arg12 : Memref sig .tc .vmem S1x2x512 .f32) (harg12 : arg12.IsWhole)
    (x0 : Vec F S512x5120 .bf16) (x1 : Vec F S512x5120 .bf16) (x2 : Vec F S1x5120x256 .bf16) (x3 : Vec F S1x5120x256 .bf16) (x4 : Vec F S256x5120 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out4_5 x0 x1 x2 x3 x4) ∗ owns (c : Thread nD τ) arg8 fullShare (out4_6 x0 x1 x2 x3 x4) ∗ owns (c : Thread nD τ) arg9 fullShare (out4_7 x0 x1 x2 x3 x4) ∗ owns (c : Thread nD τ) arg10 fullShare (out4_8 x0 x1 x2 x3 x4) ∗ owns (c : Thread nD τ) arg11 fullShare (out4_9 x0 x1 x2 x3 x4) ∗ owns (c : Thread nD τ) arg12 fullShare (out4_10 x0 x1 x2 x3 x4)) -∗ K ⟨⟩))
      ⊢ wp frame (wpE (defs₀ (F := F)) Variants.none c none) E (cc4_hidden i arg2 harg2 arg3 harg3 arg4 harg4 arg5 harg5 arg6 harg6 arg7 harg7 arg8 harg8 arg9 harg9 arg10 harg10 arg11 harg11 arg12 harg12) K := by
  simp only [cc4_hidden_eq_skeleton]; unfold cc4_hidden_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover4_5 _)).trans ?_
    rfl
  isplitl [H6]
  · iexists _; isplitr
    swap; · iexact H6
    ipureintro
    refine (View.read_writes_eq_canon _ _ _ (cover4_6 _)).trans ?_
    rfl
  isplitl [H7]
  · iexists _; isplitr
    swap; · iexact H7
    ipureintro
    refine (View.read_writes_eq_canon _ _ _ (cover4_7 _)).trans ?_
    rfl
  isplitl [H8]
  · iexists _; isplitr
    swap; · iexact H8
    ipureintro
    refine (View.read_writes_eq_canon _ _ _ (cover4_8 _)).trans ?_
    rfl
  isplitl [H9]
  · iexists _; isplitr
    swap; · iexact H9
    ipureintro
    refine (View.read_writes_eq_canon _ _ _ (cover4_9 _)).trans ?_
    rfl
  iexists _; isplitr
  swap; · iexact H10
  ipureintro
  refine (View.read_writes_eq_canon _ _ _ (cover4_10 _)).trans ?_
  rfl

/-! ## The pipeline's proof data -/

/-- The proof data of pipeline 4 on core `c`: the arrays as the region finds them (`V`); after the body at
    point `t` each input's buffer at its block and each output's at `out4_W` of the input blocks; the invariant the
    class's (Lib/Pipeline/Frame.lean `ΦA`: the scoped rest and the generator register, untouched); nothing owed;
    each input's share of its array
    (`Pipeline.shareOf`: the full share of an array several windows stage, dealt among them). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => out4_6 (iblk4 V c 0 t) (iblk4 V c 1 t) (iblk4 V c 2 t) (iblk4 V c 3 t) (iblk4 V c 4 t)
    | ⟨7, _⟩ => out4_7 (iblk4 V c 0 t) (iblk4 V c 1 t) (iblk4 V c 2 t) (iblk4 V c 3 t) (iblk4 V c 4 t)
    | ⟨8, _⟩ => out4_8 (iblk4 V c 0 t) (iblk4 V c 1 t) (iblk4 V c 2 t) (iblk4 V c 3 t) (iblk4 V c 4 t)
    | ⟨9, _⟩ => out4_9 (iblk4 V c 0 t) (iblk4 V c 1 t) (iblk4 V c 2 t) (iblk4 V c 3 t) (iblk4 V c 4 t)
    | ⟨10, _⟩ => out4_10 (iblk4 V c 0 t) (iblk4 V c 1 t) (iblk4 V c 2 t) (iblk4 V c 3 t) (iblk4 V c 4 t)
  Φ _ := Pipeline.ΦA spec4 c
  q w := Pipeline.shareOf spec4 w
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) := by dsimp only [dat4]
theorem after4_7 (c : Dev nD) (t : Fin cfg4.N) : (dat4 V c).after 7 t = out4_7 (iblk4 V c 0 t) (iblk4 V c 1 t) (iblk4 V c 2 t) (iblk4 V c 3 t) (iblk4 V c 4 t) := by dsimp only [dat4]
theorem after4_8 (c : Dev nD) (t : Fin cfg4.N) : (dat4 V c).after 8 t = out4_8 (iblk4 V c 0 t) (iblk4 V c 1 t) (iblk4 V c 2 t) (iblk4 V c 3 t) (iblk4 V c 4 t) := by dsimp only [dat4]
theorem after4_9 (c : Dev nD) (t : Fin cfg4.N) : (dat4 V c).after 9 t = out4_9 (iblk4 V c 0 t) (iblk4 V c 1 t) (iblk4 V c 2 t) (iblk4 V c 3 t) (iblk4 V c 4 t) := by dsimp only [dat4]
theorem after4_10 (c : Dev nD) (t : Fin cfg4.N) : (dat4 V c).after 10 t = out4_10 (iblk4 V c 0 t) (iblk4 V c 1 t) (iblk4 V c 2 t) (iblk4 V c 3 t) (iblk4 V c 4 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ (grid4.coords t) _ _ _ _ _ _ _ _ _ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Frame.Region5.lean ====
/- REGION 5: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 5 of @main: custom_call 5, `cc5_dw_gate` (pipeline 5), at the entry contents `V` — class R -/

/-! ## The windows' blocks -/

/-- Window `w`'s block at point `t`, read off its array as the region finds it (`V`). -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The condition of the body's `scf.if` 0 (`k5_h1`), from the grid coordinates (the skeleton's scalar
    chain substituted). -/
abbrev cond5_0 (i : grid5.Coords) : Prop := (Scalar.cmpi .ne (Scalar.extui (Scalar.cmpi .eq (BitVec.ofNat 32 (i 2).val) 0#32)) 0#32) = 1#1
/-- It holds at the points ≡ 0 (mod 32) — by arithmetic of the point. -/
theorem hcond5_0 : ∀ t : Fin cfg5.N, cond5_0 (grid5.coords t) ↔ t.val % 32 = 0 :=
  (fun t => by
    have ht : t.val < 320 := Nat.lt_of_lt_of_eq t.isLt N_5
    have e0 : (grid5.coords t 0).val = t.val / 160 % 2 := Pipeline.Grid.coords_val t 0 (by decide) rfl
    have e1 : (grid5.coords t 1).val = t.val / 32 % 5 := Pipeline.Grid.coords_val t 1 (by decide) rfl
    have e2 : (grid5.coords t 2).val = t.val / 1 % 32 := Pipeline.Grid.coords_val t 2 (by decide) rfl
    simp only [cond5_0, e0, e1, e2]
    word_cmp
   : ∀ t : Fin grid5.N, cond5_0 (grid5.coords t) ↔ t.val % 32 = 0)

/-! ## The kernel body on any staging memrefs: a subtype the run finds -/

/-- One staging buffer of output window 2, through which its contents are stated (`View.read_writes_of_cover`: the
    choice does not matter). -/
abbrev VO5_2 : View sig .tc .vmem S2560x1280 .f32 := (Memref.whole cc5_stg2_0 : Memref sig .tc .vmem S2560x1280 .f32).view
/-- Each window's current staging memref at point `t`, spelled as the pipeline passes it (`bodyAt5`), and its wholeness. -/
abbrev ms5_0 (t : Fin cfg5.N) : Memref sig .tc .vmem S2560x1024 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1280 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S2560x1280 .f32 := win5_2.stage (cfg5.slots t 2)
abbrev hs5_2 (t : Fin cfg5.N) : (ms5_2 t).IsWhole := hstage5_2 ((cfg5.slots t 2).cast nbuf5_2)

-- (the run's proof term is large: the definition's epilogue — `abstractNestedProofs` — walks it past the default budget)
set_option maxHeartbeats 1000000 in
/-- What the body's stores leave in each output's staging memref, as pieces (last first) IN CASE A (`scf.if` 0 taken: points 0, 32, … 288: 10 of 320), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_A (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond5_0 i)
    (x0 : Vec F S2560x1024 .bf16) (x1 : Vec F S1024x1280 .bf16) :
    { L2 : List (View.Piece (Elt F) S2560x1280 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc5_dw_gate i arg3 harg3 arg4 harg4 arg5 harg5) K } := by
  refine ⟨?_, fun E K => ?run⟩
  case run =>
    simp only [cc5_dw_gate_eq_skeleton]; unfold cc5_dw_gate_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S2560x1280`, checked by the kernel's evaluation: Lib/Ring.lean `Piece.tiledL`, linear in the pieces, through a loop's `@[irreducible]` trip theorem too), so they cover it. -/
theorem cover5_A_2 (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond5_0 i)
    (x0 : Vec F S2560x1024 .bf16) (x1 : Vec F S1024x1280 .bf16) (y : S2560x1280.Idx) :
    ∃ pc ∈ (kernelRun5_A c i arg3 harg3 arg4 harg4 arg5 harg5 hc0 x0 x1).1, y ∈ pc.1.set :=
  View.cover_of_tiledL (kernelRun5_A c i arg3 harg3 arg4 harg4 arg5 harg5 hc0 x0 x1).1 S2560x1280.size (by sl_kernel_rfl) y

/-- What case A leaves in output 2's staging buffer: its pieces read back over junk. -/
def out5_A_2 (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond5_0 i)
    (x0 : Vec F S2560x1024 .bf16) (x1 : Vec F S1024x1280 .bf16) : Vec F S2560x1280 .f32 :=
  VO5_2.read (Elt F) (VO5_2.writes (Elt F) VO5_2.junk (kernelRun5_A c i arg3 harg3 arg4 harg4 arg5 harg5 hc0 x0 x1).1)

-- (the run's proof term is large: the definition's epilogue — `abstractNestedProofs` — walks it past the default budget)
set_option maxHeartbeats 1000000 in
/-- What the body's stores leave in each output's staging memref, as pieces (last first) IN CASE B (`scf.if` 0 not taken: points 1, 2, … 319: 310 of 320), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun5_B (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond5_0 i)
    (x0 : Vec F S2560x1024 .bf16) (x1 : Vec F S1024x1280 .bf16) (xo2 : Vec F S2560x1280 .f32) :
    { L2 : List (View.Piece (Elt F) S2560x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc5_dw_gate i arg3 harg3 arg4 harg4 arg5 harg5) K } := by
  refine ⟨?_, fun E K => ?run⟩
  case run =>
    simp only [cc5_dw_gate_eq_skeleton]; unfold cc5_dw_gate_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S2560x1280`, checked by the kernel's evaluation: Lib/Ring.lean `Piece.tiledL`, linear in the pieces, through a loop's `@[irreducible]` trip theorem too), so they cover it. -/
theorem cover5_B_2 (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond5_0 i)
    (x0 : Vec F S2560x1024 .bf16) (x1 : Vec F S1024x1280 .bf16) (xo2 : Vec F S2560x1280 .f32) (y : S2560x1280.Idx) :
    ∃ pc ∈ (kernelRun5_B c i arg3 harg3 arg4 harg4 arg5 harg5 hc0 x0 x1 xo2).1, y ∈ pc.1.set :=
  View.cover_of_tiledL (kernelRun5_B c i arg3 harg3 arg4 harg4 arg5 harg5 hc0 x0 x1 xo2).1 S2560x1280.size (by sl_kernel_rfl) y

/-- What case B leaves in output 2's staging buffer: its pieces read back over junk. -/
def out5_B_2 (c : Dev nD) (i : grid5.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond5_0 i)
    (x0 : Vec F S2560x1024 .bf16) (x1 : Vec F S1024x1280 .bf16) (xo2 : Vec F S2560x1280 .f32) : Vec F S2560x1280 .f32 :=
  VO5_2.read (Elt F) (VO5_2.writes (Elt F) VO5_2.junk (kernelRun5_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before5_W_κ`). An assignment of the conditions no point meets is no case (`False.elim`). -/
def outsAt5 (c : Dev nD) : (n : ℕ) → n < cfg5.N → Vec F S2560x1280 .f32
  | 0, hn => out5_A_2 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) ((hcond5_0 ⟨0, hn⟩).mpr (Nat.zero_mod _)) (iblk5 V c 0 ⟨0, hn⟩) (iblk5 V c 1 ⟨0, hn⟩)
  | n + 1, hn =>
    if h0 : (n + 1) % 32 = 0 then
      out5_A_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) ((hcond5_0 ⟨n + 1, hn⟩).mpr h0) (iblk5 V c 0 ⟨n + 1, hn⟩) (iblk5 V c 1 ⟨n + 1, hn⟩)
    else
      out5_B_2 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (fun h => h0 ((hcond5_0 ⟨n + 1, hn⟩).mp h)) (iblk5 V c 0 ⟨n + 1, hn⟩) (iblk5 V c 1 ⟨n + 1, hn⟩) (outsAt5 c n (Nat.lt_of_succ_lt hn))

/-- `outsAt5` at a point of case A: that case's contents. -/
theorem outsAt5_A (c : Dev nD) (t : Fin cfg5.N) (h0 : t.val % 32 = 0) :
    outsAt5 V c t.val t.isLt = out5_A_2 c (grid5.coords t) (ms5_0 t) (hs5_0 t) (ms5_1 t) (hs5_1 t) (ms5_2 t) (hs5_2 t) ((hcond5_0 t).mpr h0) (iblk5 V c 0 t) (iblk5 V c 1 t) := by
  obtain ⟨n, hn⟩ := t
  cases n with
  | zero => exact rfl
  | succ n => exact (dif_pos h0).trans rfl

/-- `outsAt5` at a point of case B: that case's contents, over what the point before left. -/
theorem outsAt5_B (c : Dev nD) (t : Fin cfg5.N) (h0 : ¬t.val % 32 = 0) :
    outsAt5 V c t.val t.isLt = out5_B_2 c (grid5.coords t) (ms5_0 t) (hs5_0 t) (ms5_1 t) (hs5_1 t) (ms5_2 t) (hs5_2 t) (fun h => h0 ((hcond5_0 t).mp h)) (iblk5 V c 0 t) (iblk5 V c 1 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 5 on core `c`: the arrays as the region finds them (`V`); after the body at
    point `t` each input's buffer at its block and the outputs' at `outsAt5`; the invariant the class's
    (Lib/Pipeline/Frame.lean `ΦA`: the scoped rest and the generator register); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (outsAt5 V c t.val t.isLt)
  Φ _ := Pipeline.ΦA spec5 c
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (outsAt5 V c t.val t.isLt) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
/-- At a point of case B output 2's current staging buffer holds what the body left at the point before: the point is
    not the first, the buffer was not written back between (`flush5_2`), the window is live and uncut (Lib/Pipeline/Frame.lean
    `Dat.before_out_kept`). -/
theorem before5_2_B (c : Dev nD) (t : Fin cfg5.N) (h0 : ¬t.val % 32 = 0) (d) :
    (dat5 V c).before 2 t d = (outsAt5 V c (t.val - 1) (Nat.lt_of_le_of_lt (Nat.sub_le _ _) t.isLt)) := by
  have hN : t.val < 320 := lt_of_lt_of_eq t.isLt (show cfg5.N = 320 from N_5)
  rw [Dat.before_out_kept _ 2 rfl t (by omega) (Bool.eq_false_iff.mpr fun h => by have := (flush5_2 _).mp h; dsimp only at this; omega)
    (fun _ => rfl) (fun _ _ => rfl)]
  dsimp only [dat5]

/-! ## The body obligation, at a generic point -/

/-- What the body is called with at point `t` (Lib/Pipeline.lean `BodyObligation`'s precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t))

set_option maxHeartbeats 800000 in
/-- The body at any point: the inputs' memrefs hold their blocks (`before5_W`); the closed forms say which case the point is in (`by_cases`), an output the case reads before covering holds what the point before left (`before5_W_κ`); so the
    run applies; the invariant passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  have hN : t.val < 320 := lt_of_lt_of_eq t.isLt (show cfg5.N = 320 from N_5)
  by_cases h0 : t.val % 32 = 0
  · rw [outsAt5_A V c t h0]
    unfold out5_A_2
    iintro ⟨HΦ, Ho, ⟨%d0, H0⟩, ⟨%d1, H1⟩, ⟨%d2, H2⟩⟩
    iapply ((kernelRun5_A c (grid5.coords t) _ _ _ _ _ _ ((hcond5_0 t).mpr h0) (iblk5 V c 0 t) (iblk5 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_A_2 c _ _ _ _ _ _ _ _ _ _)
  · rw [outsAt5_B V c t h0]
    simp only [before5_2_B V c t h0]
    unfold out5_B_2
    iintro ⟨HΦ, Ho, ⟨%d0, H0⟩, ⟨%d1, H1⟩, ⟨%d2, H2⟩⟩
    iapply ((kernelRun5_B c (grid5.coords t) _ _ _ _ _ _ (fun h => h0 ((hcond5_0 t).mp h)) (iblk5 V c 0 t) (iblk5 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover5_B_2 c _ _ _ _ _ _ _ _ _ _ _)

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated (Lib/Pipeline/FrameBody.lean `triple_restated`). -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions

end Cert.KernelIdeal.Gen

end
-- ==== Proof.Frame.Region6.lean ====
/- REGION 6: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 6 of @main: custom_call 6, `cc6_dw_up` (pipeline 6), at the entry contents `V` — class R -/

/-! ## The windows' blocks -/

/-- Window `w`'s block at point `t`, read off its array as the region finds it (`V`). -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's branch conditions -/

/-- The condition of the body's `scf.if` 0 (`k6_h1`), from the grid coordinates (the skeleton's scalar
    chain substituted). -/
abbrev cond6_0 (i : grid6.Coords) : Prop := (Scalar.cmpi .ne (Scalar.extui (Scalar.cmpi .eq (BitVec.ofNat 32 (i 2).val) 0#32)) 0#32) = 1#1
/-- It holds at the points ≡ 0 (mod 32) — by arithmetic of the point. -/
theorem hcond6_0 : ∀ t : Fin cfg6.N, cond6_0 (grid6.coords t) ↔ t.val % 32 = 0 :=
  (fun t => by
    have ht : t.val < 320 := Nat.lt_of_lt_of_eq t.isLt N_6
    have e0 : (grid6.coords t 0).val = t.val / 160 % 2 := Pipeline.Grid.coords_val t 0 (by decide) rfl
    have e1 : (grid6.coords t 1).val = t.val / 32 % 5 := Pipeline.Grid.coords_val t 1 (by decide) rfl
    have e2 : (grid6.coords t 2).val = t.val / 1 % 32 := Pipeline.Grid.coords_val t 2 (by decide) rfl
    simp only [cond6_0, e0, e1, e2]
    word_cmp
   : ∀ t : Fin grid6.N, cond6_0 (grid6.coords t) ↔ t.val % 32 = 0)

/-! ## The kernel body on any staging memrefs: a subtype the run finds -/

/-- One staging buffer of output window 2, through which its contents are stated (`View.read_writes_of_cover`: the
    choice does not matter). -/
abbrev VO6_2 : View sig .tc .vmem S2560x1280 .f32 := (Memref.whole cc6_stg2_0 : Memref sig .tc .vmem S2560x1280 .f32).view
/-- Each window's current staging memref at point `t`, spelled as the pipeline passes it (`bodyAt6`), and its wholeness. -/
abbrev ms6_0 (t : Fin cfg6.N) : Memref sig .tc .vmem S2560x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x1280 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2560x1280 .f32 := win6_2.stage (cfg6.slots t 2)
abbrev hs6_2 (t : Fin cfg6.N) : (ms6_2 t).IsWhole := hstage6_2 ((cfg6.slots t 2).cast nbuf6_2)

-- (the run's proof term is large: the definition's epilogue — `abstractNestedProofs` — walks it past the default budget)
set_option maxHeartbeats 1000000 in
/-- What the body's stores leave in each output's staging memref, as pieces (last first) IN CASE A (`scf.if` 0 taken: points 0, 32, … 288: 10 of 320), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun6_A (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond6_0 i)
    (x0 : Vec F S2560x1024 .bf16) (x1 : Vec F S1024x1280 .bf16) :
    { L2 : List (View.Piece (Elt F) S2560x1280 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc6_dw_up i arg3 harg3 arg4 harg4 arg5 harg5) K } := by
  refine ⟨?_, fun E K => ?run⟩
  case run =>
    simp only [cc6_dw_up_eq_skeleton]; unfold cc6_dw_up_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S2560x1280`, checked by the kernel's evaluation: Lib/Ring.lean `Piece.tiledL`, linear in the pieces, through a loop's `@[irreducible]` trip theorem too), so they cover it. -/
theorem cover6_A_2 (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond6_0 i)
    (x0 : Vec F S2560x1024 .bf16) (x1 : Vec F S1024x1280 .bf16) (y : S2560x1280.Idx) :
    ∃ pc ∈ (kernelRun6_A c i arg3 harg3 arg4 harg4 arg5 harg5 hc0 x0 x1).1, y ∈ pc.1.set :=
  View.cover_of_tiledL (kernelRun6_A c i arg3 harg3 arg4 harg4 arg5 harg5 hc0 x0 x1).1 S2560x1280.size (by sl_kernel_rfl) y

/-- What case A leaves in output 2's staging buffer: its pieces read back over junk. -/
def out6_A_2 (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : cond6_0 i)
    (x0 : Vec F S2560x1024 .bf16) (x1 : Vec F S1024x1280 .bf16) : Vec F S2560x1280 .f32 :=
  VO6_2.read (Elt F) (VO6_2.writes (Elt F) VO6_2.junk (kernelRun6_A c i arg3 harg3 arg4 harg4 arg5 harg5 hc0 x0 x1).1)

-- (the run's proof term is large: the definition's epilogue — `abstractNestedProofs` — walks it past the default budget)
set_option maxHeartbeats 1000000 in
/-- What the body's stores leave in each output's staging memref, as pieces (last first) IN CASE B (`scf.if` 0 not taken: points 1, 2, … 319: 310 of 320), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun6_B (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond6_0 i)
    (x0 : Vec F S2560x1024 .bf16) (x1 : Vec F S1024x1280 .bf16) (xo2 : Vec F S2560x1280 .f32) :
    { L2 : List (View.Piece (Elt F) S2560x1280 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc6_dw_up i arg3 harg3 arg4 harg4 arg5 harg5) K } := by
  refine ⟨?_, fun E K => ?run⟩
  case run =>
    simp only [cc6_dw_up_eq_skeleton]; unfold cc6_dw_up_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S2560x1280`, checked by the kernel's evaluation: Lib/Ring.lean `Piece.tiledL`, linear in the pieces, through a loop's `@[irreducible]` trip theorem too), so they cover it. -/
theorem cover6_B_2 (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond6_0 i)
    (x0 : Vec F S2560x1024 .bf16) (x1 : Vec F S1024x1280 .bf16) (xo2 : Vec F S2560x1280 .f32) (y : S2560x1280.Idx) :
    ∃ pc ∈ (kernelRun6_B c i arg3 harg3 arg4 harg4 arg5 harg5 hc0 x0 x1 xo2).1, y ∈ pc.1.set :=
  View.cover_of_tiledL (kernelRun6_B c i arg3 harg3 arg4 harg4 arg5 harg5 hc0 x0 x1 xo2).1 S2560x1280.size (by sl_kernel_rfl) y

/-- What case B leaves in output 2's staging buffer: its pieces read back over junk. -/
def out6_B_2 (c : Dev nD) (i : grid6.Coords) (arg3 : Memref sig .tc .vmem S2560x1024 .bf16) (harg3 : arg3.IsWhole) (arg4 : Memref sig .tc .vmem S1024x1280 .bf16) (harg4 : arg4.IsWhole) (arg5 : Memref sig .tc .vmem S2560x1280 .f32) (harg5 : arg5.IsWhole) (hc0 : ¬cond6_0 i)
    (x0 : Vec F S2560x1024 .bf16) (x1 : Vec F S1024x1280 .bf16) (xo2 : Vec F S2560x1280 .f32) : Vec F S2560x1280 .f32 :=
  VO6_2.read (Elt F) (VO6_2.writes (Elt F) VO6_2.junk (kernelRun6_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before6_W_κ`). An assignment of the conditions no point meets is no case (`False.elim`). -/
def outsAt6 (c : Dev nD) : (n : ℕ) → n < cfg6.N → Vec F S2560x1280 .f32
  | 0, hn => out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) ((hcond6_0 ⟨0, hn⟩).mpr (Nat.zero_mod _)) (iblk6 V c 0 ⟨0, hn⟩) (iblk6 V c 1 ⟨0, hn⟩)
  | n + 1, hn =>
    if h0 : (n + 1) % 32 = 0 then
      out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) ((hcond6_0 ⟨n + 1, hn⟩).mpr h0) (iblk6 V c 0 ⟨n + 1, hn⟩) (iblk6 V c 1 ⟨n + 1, hn⟩)
    else
      out6_B_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (fun h => h0 ((hcond6_0 ⟨n + 1, hn⟩).mp h)) (iblk6 V c 0 ⟨n + 1, hn⟩) (iblk6 V c 1 ⟨n + 1, hn⟩) (outsAt6 c n (Nat.lt_of_succ_lt hn))

/-- `outsAt6` at a point of case A: that case's contents. -/
theorem outsAt6_A (c : Dev nD) (t : Fin cfg6.N) (h0 : t.val % 32 = 0) :
    outsAt6 V c t.val t.isLt = out6_A_2 c (grid6.coords t) (ms6_0 t) (hs6_0 t) (ms6_1 t) (hs6_1 t) (ms6_2 t) (hs6_2 t) ((hcond6_0 t).mpr h0) (iblk6 V c 0 t) (iblk6 V c 1 t) := by
  obtain ⟨n, hn⟩ := t
  cases n with
  | zero => exact rfl
  | succ n => exact (dif_pos h0).trans rfl

/-- `outsAt6` at a point of case B: that case's contents, over what the point before left. -/
theorem outsAt6_B (c : Dev nD) (t : Fin cfg6.N) (h0 : ¬t.val % 32 = 0) :
    outsAt6 V c t.val t.isLt = out6_B_2 c (grid6.coords t) (ms6_0 t) (hs6_0 t) (ms6_1 t) (hs6_1 t) (ms6_2 t) (hs6_2 t) (fun h => h0 ((hcond6_0 t).mp h)) (iblk6 V c 0 t) (iblk6 V c 1 t) (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 6 on core `c`: the arrays as the region finds them (`V`); after the body at
    point `t` each input's buffer at its block and the outputs' at `outsAt6`; the invariant the class's
    (Lib/Pipeline/Frame.lean `ΦA`: the scoped rest and the generator register); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt)
  Φ _ := Pipeline.ΦA spec6 c
  q _ := fullShare
  owed _ := 0

/-- The proof data's arrays are the region-entry contents, by projecting the definition (`dsimp`): a region record cites
    this for its arrays rather than have Lean unfold `V`, the fold through @main up to the region's entry. -/
theorem A_eq6 (c : Dev nD) (w : Fin cfg6.W) : (dat6 V c).A w = V c (Pipeline.arrRef spec6 w) := by
  dsimp only [dat6]

/-- What the body leaves, window by window (the proof data's `match` reduced by `dsimp`). -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt) := by dsimp only [dat6]

/-- Each input's current staging buffer holds its block at every point, fetched there or not (`beforeK_W_of`). -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
/-- At a point of case B output 2's current staging buffer holds what the body left at the point before: the point is
    not the first, the buffer was not written back between (`flush6_2`), the window is live and uncut (Lib/Pipeline/Frame.lean
    `Dat.before_out_kept`). -/
theorem before6_2_B (c : Dev nD) (t : Fin cfg6.N) (h0 : ¬t.val % 32 = 0) (d) :
    (dat6 V c).before 2 t d = (outsAt6 V c (t.val - 1) (Nat.lt_of_le_of_lt (Nat.sub_le _ _) t.isLt)) := by
  have hN : t.val < 320 := lt_of_lt_of_eq t.isLt (show cfg6.N = 320 from N_6)
  rw [Dat.before_out_kept _ 2 rfl t (by omega) (Bool.eq_false_iff.mpr fun h => by have := (flush6_2 _).mp h; dsimp only at this; omega)
    (fun _ => rfl) (fun _ _ => rfl)]
  dsimp only [dat6]

/-! ## The body obligation, at a generic point -/

/-- What the body is called with at point `t` (Lib/Pipeline.lean `BodyObligation`'s precondition, the windows one by one), -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t))

set_option maxHeartbeats 800000 in
/-- The body at any point: the inputs' memrefs hold their blocks (`before6_W`); the closed forms say which case the point is in (`by_cases`), an output the case reads before covering holds what the point before left (`before6_W_κ`); so the
    run applies; the invariant passes through unread; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  have hN : t.val < 320 := lt_of_lt_of_eq t.isLt (show cfg6.N = 320 from N_6)
  by_cases h0 : t.val % 32 = 0
  · rw [outsAt6_A V c t h0]
    unfold out6_A_2
    iintro ⟨HΦ, Ho, ⟨%d0, H0⟩, ⟨%d1, H1⟩, ⟨%d2, H2⟩⟩
    iapply ((kernelRun6_A c (grid6.coords t) _ _ _ _ _ _ ((hcond6_0 t).mpr h0) (iblk6 V c 0 t) (iblk6 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover6_A_2 c _ _ _ _ _ _ _ _ _ _)
  · rw [outsAt6_B V c t h0]
    simp only [before6_2_B V c t h0]
    unfold out6_B_2
    iintro ⟨HΦ, Ho, ⟨%d0, H0⟩, ⟨%d1, H1⟩, ⟨%d2, H2⟩⟩
    iapply ((kernelRun6_B c (grid6.coords t) _ _ _ _ _ _ (fun h => h0 ((hcond6_0 t).mp h)) (iblk6 V c 0 t) (iblk6 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover6_B_2 c _ _ _ _ _ _ _ _ _ _ _)

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point: the body's triple restated (Lib/Pipeline/FrameBody.lean `triple_restated`). -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Regions

end Cert.KernelIdeal.Gen

end
-- ==== Proof.Frame.Region7.lean ====
/- REGION 7: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 7 of @main: custom_call 7, `cc7_dw_down` (pipeline 7), at the entry contents `V` — class R -/

/-! ## The windows' blocks -/

/-- Window `w`'s block at point `t`, read off its array as the region finds it (`V`). -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The condition of the body's `scf.if` 0 (`k7_h1`), from the grid coordinates (the skeleton's scalar
    chain substituted). -/
abbrev cond7_0 (i : grid7.Coords) : Prop := (Scalar.cmpi .ne (Scalar.extui (Scalar.cmpi .eq (BitVec.ofNat 32 (i 2).val) 0#32)) 0#32) = 1#1
/-- It holds at the points ≡ 0 (mod 32) — by arithmetic of the point. -/
theorem hcond7_0 : ∀ t : Fin cfg7.N, cond7_0 (grid7.coords t) ↔ t.val % 32 = 0 :=
  (fun t => by
    have ht : t.val < 320 := Nat.lt_of_lt_of_eq t.isLt N_7
    have e0 : (grid7.coords t 0).val = t.val / 64 % 5 := Pipeline.Grid.coords_val t 0 (by decide) rfl
    have e1 : (grid7.coords t 1).val = t.val / 32 % 2 := Pipeline.Grid.coords_val t 1 (by decide) rfl
    have e2 : (grid7.coords t 2).val = t.val / 1 % 32 := Pipeline.Grid.coords_val t 2 (by decide) rfl
    simp only [cond7_0, e0, e1, e2]
    word_cmp
   : ∀ t : Fin grid7.N, cond7_0 (grid7.coords t) ↔ t.val % 32 = 0)

/-! ## The kernel body on any staging memrefs: a subtype the run finds -/

/-- One staging buffer of output window 2, through which its contents are stated (`View.read_writes_of_cover`: the
    choice does not matter). -/
abbrev VO7_2 : View sig .tc .vmem S1280x2560 .f32 := (Memref.whole cc7_stg2_0 : Memref sig .tc .vmem S1280x2560 .f32).view
/-- Each window's current staging memref at point `t`, spelled as the pipeline passes it (`bodyAt7`), and its wholeness. -/
abbrev ms7_0 (t : Fin cfg7.N) : Memref sig .tc .vmem S1280x1024 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1024x2560 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1280x2560 .f32 := win7_2.stage (cfg7.slots t 2)
abbrev hs7_2 (t : Fin cfg7.N) : (ms7_2 t).IsWhole := hstage7_2 ((cfg7.slots t 2).cast nbuf7_2)

-- (the run's proof term is large: the definition's epilogue — `abstractNestedProofs` — walks it past the default budget)
set_option maxHeartbeats 1000000 in
/-- What the body's stores leave in each output's staging memref, as pieces (last first) IN CASE A (`scf.if` 0 taken: points 0, 32, … 288: 10 of 320), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun7_A (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : cond7_0 i)
    (x0 : Vec F S1280x1024 .bf16) (x1 : Vec F S1024x2560 .bf16) :
    { L2 : List (View.Piece (Elt F) S1280x2560 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc7_dw_down i arg3 harg3 arg4 harg4 arg5 harg5) K } := by
  refine ⟨?_, fun E K => ?run⟩
  case run =>
    simp only [cc7_dw_down_eq_skeleton]; unfold cc7_dw_down_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case A's pieces for output 2 tile its block (2 stores of `S1280x2560`, checked by the kernel's evaluation: Lib/Ring.lean `Piece.tiledL`, linear in the pieces, through a loop's `@[irreducible]` trip theorem too), so they cover it. -/
theorem cover7_A_2 (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : cond7_0 i)
    (x0 : Vec F S1280x1024 .bf16) (x1 : Vec F S1024x2560 .bf16) (y : S1280x2560.Idx) :
    ∃ pc ∈ (kernelRun7_A c i arg3 harg3 arg4 harg4 arg5 harg5 hc0 x0 x1).1, y ∈ pc.1.set :=
  View.cover_of_tiledL (kernelRun7_A c i arg3 harg3 arg4 harg4 arg5 harg5 hc0 x0 x1).1 S1280x2560.size (by sl_kernel_rfl) y

/-- What case A leaves in output 2's staging buffer: its pieces read back over junk. -/
def out7_A_2 (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : cond7_0 i)
    (x0 : Vec F S1280x1024 .bf16) (x1 : Vec F S1024x2560 .bf16) : Vec F S1280x2560 .f32 :=
  VO7_2.read (Elt F) (VO7_2.writes (Elt F) VO7_2.junk (kernelRun7_A c i arg3 harg3 arg4 harg4 arg5 harg5 hc0 x0 x1).1)

-- (the run's proof term is large: the definition's epilogue — `abstractNestedProofs` — walks it past the default budget)
set_option maxHeartbeats 1000000 in
/-- What the body's stores leave in each output's staging memref, as pieces (last first) IN CASE B (`scf.if` 0 not taken: points 1, 2, … 319: 310 of 320), WITH the
    proof that on whole staging memrefs — the inputs' at their contents, the outputs it reads before covering (2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun7_B (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : ¬cond7_0 i)
    (x0 : Vec F S1280x1024 .bf16) (x1 : Vec F S1024x2560 .bf16) (xo2 : Vec F S1280x2560 .f32) :
    { L2 : List (View.Piece (Elt F) S1280x2560 .f32) //
      ∀ (E : Set ℕ) (K : PUnit → sProp 𝕄),
        iprop(owns (c : Thread nD τ) arg3 fullShare x0 ∗ owns (c : Thread nD τ) arg4 fullShare x1 ∗ owns (c : Thread nD τ) arg5 fullShare xo2
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2)) -∗ K ⟨⟩))
          ⊢ wp frame (wpE (defs₀ (F := F)) Variants.none c none) E (cc7_dw_down i arg3 harg3 arg4 harg4 arg5 harg5) K } := by
  refine ⟨?_, fun E K => ?run⟩
  case run =>
    simp only [cc7_dw_down_eq_skeleton]; unfold cc7_dw_down_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    iexists _; iexact H2

/-- Case B's pieces for output 2 tile its block (1 store of `S1280x2560`, checked by the kernel's evaluation: Lib/Ring.lean `Piece.tiledL`, linear in the pieces, through a loop's `@[irreducible]` trip theorem too), so they cover it. -/
theorem cover7_B_2 (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : ¬cond7_0 i)
    (x0 : Vec F S1280x1024 .bf16) (x1 : Vec F S1024x2560 .bf16) (xo2 : Vec F S1280x2560 .f32) (y : S1280x2560.Idx) :
    ∃ pc ∈ (kernelRun7_B c i arg3 harg3 arg4 harg4 arg5 harg5 hc0 x0 x1 xo2).1, y ∈ pc.1.set :=
  View.cover_of_tiledL (kernelRun7_B c i arg3 harg3 arg4 harg4 arg5 harg5 hc0 x0 x1 xo2).1 S1280x2560.size (by sl_kernel_rfl) y

/-- What case B leaves in output 2's staging buffer: its pieces read back over junk. -/
def out7_B_2 (c : Dev nD) (i : grid7.Coords) (arg3 : Memref sig .tc .vmem S1280x1024 .bf16) (harg3 : arg3.IsWhole) (arg4 : Memref sig .tc .vmem S1024x2560 .bf16) (harg4 : arg4.IsWhole) (arg5 : Memref sig .tc .vmem S1280x2560 .f32) (harg5 : arg5.IsWhole) (hc0 : ¬cond7_0 i)
    (x0 : Vec F S1280x1024 .bf16) (x1 : Vec F S1024x2560 .bf16) (xo2 : Vec F S1280x2560 .f32) : Vec F S1280x2560 .f32 :=
  VO7_2.read (Elt F) (VO7_2.writes (Elt F) VO7_2.junk (kernelRun7_B c i arg3 harg3 arg4 harg4 arg5 harg5 hc0 x0 x1 xo2).1)

/-! ## What the outputs hold after each point -/

/-- THE ACCUMULATION. What the outputs' staging buffers hold after the body at position `n`:
    the case the closed forms select at `n`, run at the point's memrefs and input blocks, an output it reads before covering
    at what this leaves at `n - 1` (its buffer is not written back between: `before7_W_κ`). An assignment of the conditions no point meets is no case (`False.elim`). -/
def outsAt7 (c : Dev nD) : (n : ℕ) → n < cfg7.N → Vec F S1280x2560 .f32
  | 0, hn => out7_A_2 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) ((hcond7_0 ⟨0, hn⟩).mpr (Nat.zero_mod _)) (iblk7 V c 0 ⟨0, hn⟩) (iblk7 V c 1 ⟨0, hn⟩)
  | n + 1, hn =>
    if h0 : (n + 1) % 32 = 0 then
      out7_A_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) ((hcond7_0 ⟨n + 1, hn⟩).mpr h0) (iblk7 V c 0 ⟨n + 1, hn⟩) (iblk7 V c 1 ⟨n + 1, hn⟩)
    else
      out7_B_2 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (fun h => h0 ((hcond7_0 ⟨n + 1, hn⟩).mp h)) (iblk7 V c 0 ⟨n + 1, hn⟩) (iblk7 V c 1 ⟨n + 1, hn⟩) (outsAt7 c n (Nat.lt_of_succ_lt hn))

/-- `outsAt7` at a point of case A: that case's contents. -/
theorem outsAt7_A (c : Dev nD) (t : Fin cfg7.N) (h0 : t.val % 32 = 0) :
    outsAt7 V c t.val t.isLt = out7_A_2 c (grid7.coords t) (ms7_0 t) (hs7_0 t) (ms7_1 t) (hs7_1 t) (ms7_2 t) (hs7_2 t) ((hcond7_0 t).mpr h0) (iblk7 V c 0 t) (iblk7 V c 1 t) := by
  obtain ⟨n, hn⟩ := t
  cases n with
  | zero => exact rfl
  | succ n => exact (dif_pos h0).trans rfl

/-- `outsAt7` at a point of case B: that case's contents, over what the point before left. -/
theorem outsAt7_B (c : Dev nD) (t : Fin cfg7.N) (h0 : ¬t.val % 32 = 0) :
    outsAt7 V c t.val t.isLt = out7_B_2 c (grid7.coords t) (ms7_0 t) (hs7_0 t) (ms7_1 t) (hs7_1 t) (ms7_2 t) (hs7_2 t) (fun h => h0 ((hcond7_0 t).mp h)) (iblk7 V c 0 t) (iblk7 V c 1 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 7 on core `c`: the arrays as the region finds them (`V`); after the body at
    point `t` each input's buffer at its block and the outputs' at `outsAt7`; the invariant the class's
    (Lib/Pipeline/Frame.lean `ΦA`: the scoped rest and the generator register); nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => (outsAt7 V c t.val t.isLt)
  Φ _ := Pipeline.ΦA spec7 c
  q _ := fullShare
  owed _ := 0

/-- The proof data's arrays are the region-entry contents, by projecting the definition (`dsimp`): a region record cites
    this for its arrays rather than have Lean unfold `V`, the fold through @main up to the region's entry. -/
theorem A_eq7 (c : Dev nD) (w : Fin cfg7.W) : (dat7 V c).A w = V c (Pipeline.arrRef spec7 w) := by
  dsimp only [dat7]

/-- What the body leaves, window by window (the proof data's `match` reduced by `dsimp`). -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = (outsAt7 V c t.val t.isLt) := by dsimp only [dat7]

/-- Each input's current staging buffer holds its block at every point, fetched there or not (`beforeK_W_of`). -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
/-- At a point of case B output 2's current staging buffer holds what the body left at the point before: the point is
    not the first, the buffer was not written back between (`flush7_2`), the window is live and uncut (Lib/Pipeline/Frame.lean
    `Dat.before_out_kept`). -/
theorem before7_2_B (c : Dev nD) (t : Fin cfg7.N) (h0 : ¬t.val % 32 = 0) (d) :
    (dat7 V c).before 2 t d = (outsAt7 V c (t.val - 1) (Nat.lt_of_le_of_lt (Nat.sub_le _ _) t.isLt)) := by
  have hN : t.val < 320 := lt_of_lt_of_eq t.isLt (show cfg7.N = 320 from N_7)
  rw [Dat.before_out_kept _ 2 rfl t (by omega) (Bool.eq_false_iff.mpr fun h => by have := (flush7_2 _).mp h; dsimp only at this; omega)
    (fun _ => rfl) (fun _ _ => rfl)]
  dsimp only [dat7]

/-! ## The body obligation, at a generic point -/

/-- What the body is called with at point `t` (Lib/Pipeline.lean `BodyObligation`'s precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t))

set_option maxHeartbeats 800000 in
/-- The body at any point: the inputs' memrefs hold their blocks (`before7_W`); the closed forms say which case the point is in (`by_cases`), an output the case reads before covering holds what the point before left (`before7_W_κ`); so the
    run applies; the invariant passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  have hN : t.val < 320 := lt_of_lt_of_eq t.isLt (show cfg7.N = 320 from N_7)
  by_cases h0 : t.val % 32 = 0
  · rw [outsAt7_A V c t h0]
    unfold out7_A_2
    iintro ⟨HΦ, Ho, ⟨%d0, H0⟩, ⟨%d1, H1⟩, ⟨%d2, H2⟩⟩
    iapply ((kernelRun7_A c (grid7.coords t) _ _ _ _ _ _ ((hcond7_0 t).mpr h0) (iblk7 V c 0 t) (iblk7 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover7_A_2 c _ _ _ _ _ _ _ _ _ _)
  · rw [outsAt7_B V c t h0]
    simp only [before7_2_B V c t h0]
    unfold out7_B_2
    iintro ⟨HΦ, Ho, ⟨%d0, H0⟩, ⟨%d1, H1⟩, ⟨%d2, H2⟩⟩
    iapply ((kernelRun7_B c (grid7.coords t) _ _ _ _ _ _ (fun h => h0 ((hcond7_0 t).mp h)) (iblk7 V c 0 t) (iblk7 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover7_B_2 c _ _ _ _ _ _ _ _ _ _ _)

/-- The body table's row at point `t`'s slots is the body as `bodyAt7` spells it. -/
theorem defs₀_row7 (t : Fin cfg7.N) :
    defs₀ (F := F) .tc cfg7.body (cfg7.bodyArgs t (cfg7.slots t)) = bodyAt7 t := by
  unfold defs₀; rw [Defs.onTc_tc]

/-- The library's body obligation, at every point: the body's triple restated (Lib/Pipeline/FrameBody.lean `triple_restated`). -/
theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Regions

end Cert.KernelIdeal.Gen

end
-- ==== Proof.Frame.Region8.lean ====
/- REGION 8: the pallas_call's pipeline at the buffer contents `V` the region is entered with: the triple of the
   kernel's body at every grid point, what the body leaves in each staging buffer, the pipeline's proof data and the
   obligation that the body meets it. The text follows the generated frame modules of single regions. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 8 of @main: custom_call 8, `cc8_dx` (pipeline 8), at the entry contents `V` — class R -/

/-! ## The windows' blocks -/

/-- Window `w`'s block at point `t`, read off its array as the region finds it (`V`). -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- The condition of the body's `scf.if` 0 (`k8_h1`), from the grid coordinates (the skeleton's scalar
    chain substituted). -/
abbrev cond8_0 (i : grid8.Coords) : Prop := (Scalar.cmpi .ne (Scalar.extui (Scalar.cmpi .eq (BitVec.ofNat 32 (i 2).val) 0#32)) 0#32) = 1#1
/-- It holds at the points ≡ 0 (mod 5) — by arithmetic of the point. -/
theorem hcond8_0 : ∀ t : Fin cfg8.N, cond8_0 (grid8.coords t) ↔ t.val % 5 = 0 :=
  (fun t => by
    have ht : t.val < 320 := Nat.lt_of_lt_of_eq t.isLt N_8
    have e0 : (grid8.coords t 0).val = t.val / 10 % 32 := Pipeline.Grid.coords_val t 0 (by decide) rfl
    have e1 : (grid8.coords t 1).val = t.val / 5 % 2 := Pipeline.Grid.coords_val t 1 (by decide) rfl
    have e2 : (grid8.coords t 2).val = t.val / 1 % 5 := Pipeline.Grid.coords_val t 2 (by decide) rfl
    simp only [cond8_0, e0, e1, e2]
    word_cmp
   : ∀ t : Fin grid8.N, cond8_0 (grid8.coords t) ↔ t.val % 5 = 0)

/-- The condition of the body's `scf.if` 1 (`k8_h2`), from the grid coordinates (the skeleton's scalar
    chain substituted). -/
abbrev cond8_1 (i : grid8.Coords) : Prop := k8_cond2 i = 1#1
/-- It holds at the points ≡ 4 (mod 5) — by arithmetic of the point. -/
theorem hcond8_1 : ∀ t : Fin cfg8.N, cond8_1 (grid8.coords t) ↔ t.val % 5 = 4 :=
  (fun t => by
    have ht : t.val < 320 := Nat.lt_of_lt_of_eq t.isLt N_8
    have e0 : (grid8.coords t 0).val = t.val / 10 % 32 := Pipeline.Grid.coords_val t 0 (by decide) rfl
    have e1 : (grid8.coords t 1).val = t.val / 5 % 2 := Pipeline.Grid.coords_val t 1 (by decide) rfl
    have e2 : (grid8.coords t 2).val = t.val / 1 % 5 := Pipeline.Grid.coords_val t 2 (by decide) rfl
    simp only [cond8_1, k8_cond2, e0, e1, e2]
    word_cmp
   : ∀ t : Fin grid8.N, cond8_1 (grid8.coords t) ↔ t.val % 5 = 4)

/-! ## Where the windows are idle (the printed configuration's table `Cfg.idle`) -/

/-- Window 0 is never idle (an input). -/
theorem liveAt8_0 : ∀ t : Fin cfg8.N, cfg8.idle 0 (grid8.coords t) = false := fun _ => rfl
/-- Window 1 is never idle (an input). -/
theorem liveAt8_1 : ∀ t : Fin cfg8.N, cfg8.idle 1 (grid8.coords t) = false := fun _ => rfl
/-- Window 2 is never idle (an input). -/
theorem liveAt8_2 : ∀ t : Fin cfg8.N, cfg8.idle 2 (grid8.coords t) = false := fun _ => rfl
/-- Window 3 is never idle (an input). -/
theorem liveAt8_3 : ∀ t : Fin cfg8.N, cfg8.idle 3 (grid8.coords t) = false := fun _ => rfl
/-- At the points of case A the printed configuration (`Cfg.idle`) calls output 4 idle: the case stores nothing into it. -/
theorem idleAt8_4_A : ∀ t : Fin cfg8.N, cond8_0 (grid8.coords t) → ¬cond8_1 (grid8.coords t) → cfg8.idle 4 (grid8.coords t) = true := by decide +kernel
/-- At the points of case A the pipeline does not write output 4's block back. -/
theorem noFlush8_4_A : ∀ t : Fin cfg8.N, cond8_0 (grid8.coords t) → ¬cond8_1 (grid8.coords t) → (cfg8.win 4).flush t = false := by decide +kernel
/-- At the points of case B the printed configuration (`Cfg.idle`) calls output 4 idle: the case stores nothing into it. -/
theorem idleAt8_4_B : ∀ t : Fin cfg8.N, ¬cond8_0 (grid8.coords t) → ¬cond8_1 (grid8.coords t) → cfg8.idle 4 (grid8.coords t) = true := by decide +kernel
/-- At the points of case B the pipeline does not write output 4's block back. -/
theorem noFlush8_4_B : ∀ t : Fin cfg8.N, ¬cond8_0 (grid8.coords t) → ¬cond8_1 (grid8.coords t) → (cfg8.win 4).flush t = false := by decide +kernel
/-- At the points of case C the printed configuration (`Cfg.idle`) calls output 4 live: the case stores into it. -/
theorem liveAt8_4_C : ∀ t : Fin cfg8.N, ¬cond8_0 (grid8.coords t) → cond8_1 (grid8.coords t) → cfg8.idle 4 (grid8.coords t) = false := by decide +kernel

/-! ## The kernel body on any staging memrefs: a subtype the run finds -/

/-- One staging buffer of output window 4, through which its contents are stated (`View.read_writes_of_cover`: the
    choice does not matter). -/
abbrev VO8_4 : View sig .tc .vmem S1024x2560 .bf16 := (Memref.whole cc8_stg4_0 : Memref sig .tc .vmem S1024x2560 .bf16).view
/-- Each window's current staging memref at point `t`, spelled as the pipeline passes it (`bodyAt8`), and its wholeness. -/
abbrev ms8_0 (t : Fin cfg8.N) : Memref sig .tc .vmem S1x1024x1280 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S1x1024x1280 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x2560x1280 .bf16 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1x2560x1280 .bf16 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1024x2560 .bf16 := win8_4.stage (cfg8.slots t 4)
abbrev hs8_4 (t : Fin cfg8.N) : (ms8_4 t).IsWhole := hstage8_4 ((cfg8.slots t 4).cast nbuf8_4)
/-- The scratch operands: whole scoped buffers of the kernel's own, passed beside the windows. -/
abbrev scM8_0 : Memref sig .tc .vmem S1024x2560 .f32 := Memref.whole cc8_scratch0
/-- The scratch `arg8` the kernel carries between points, as a view: what it holds is stated through it. -/
abbrev VS8_0 : View sig .tc .vmem S1024x2560 .f32 := scM8_0.view

/-- `Gen.scopedRest8_split` as ONE chain: the kernel's own scratch buffers, each whole at some contents, then every
    other scoped buffer, unopened (`Pipeline.scopedRestBut`). -/
theorem scopedRest8_flat (c : Dev nD) :
    (Pipeline.scopedRest spec8 c : sProp 𝕄)
      = iprop((∃ f : Buf (Elt F) ((c : Thread nD τ).loc cc8_scratch0), ((c : Thread nD τ).loc cc8_scratch0) ↦{fullShare} f) ∗ Pipeline.scopedRestBut spec8 c [cc8_scratch0]) := by
  rw [scopedRest8_split]

/-- The frame kit's invariant with the scratch operands as memrefs owned at some contents (`Gen.scopedRest8_flat`,
    Lib/Memref.lean `owns_whole`): what the body obligation hands the run and takes back. -/
theorem PhiA8_eq (c : Dev nD) :
    (Pipeline.ΦA spec8 c : sProp 𝕄)
      = iprop(iprop((∃ d, owns (c : Thread nD τ) scM8_0 fullShare d) ∗ Pipeline.scopedRestBut spec8 c [cc8_scratch0]) ∗ (∃ r, prngReg c r)) := by
  unfold Pipeline.ΦA; rw [scopedRest8_flat]; simp only [scM8_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 5, … 315: 64 of 320), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun8_A (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : cond8_0 i) (hc1 : ¬cond8_1 i)
    (x0 : Vec F S1x1024x1280 .bf16) (x1 : Vec F S1x1024x1280 .bf16) (x2 : Vec F S1x2560x1280 .bf16) (x3 : Vec F S1x2560x1280 .bf16) :
    Σ' (L4 : List (View.Piece (Elt F) S1024x2560 .bf16)), { LS0 : List (View.Piece (Elt F) S1024x2560 .f32) //
      ∀ (xi4 : Vec F S1024x2560 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc8_dx i arg3 harg3 arg4 harg4 arg5 harg5 arg6 harg6 arg7 harg7 arg8 harg8) K } := by
  refine ⟨[], ?_, fun xi4 E K => ?run⟩
  case run =>
    simp only [cc8_dx_eq_skeleton]; unfold cc8_dx_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case A stores nothing into output 4 (the window is idle at its points and not written back there):
    no pieces — a placeholder (junk read back) that nothing consults, since at these points the window is neither
    written back nor read at the next point (Lib/Pipeline.lean "Idle points"). -/
def out8_A_4 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : cond8_0 i) (hc1 : ¬cond8_1 i)
    (x0 : Vec F S1x1024x1280 .bf16) (x1 : Vec F S1x1024x1280 .bf16) (x2 : Vec F S1x2560x1280 .bf16) (x3 : Vec F S1x2560x1280 .bf16) : Vec F S1024x2560 .bf16 :=
  VO8_4.read (Elt F) (VO8_4.writes (Elt F) VO8_4.junk (kernelRun8_A c i arg3 harg3 arg4 harg4 arg5 harg5 arg6 harg6 arg7 harg7 arg8 harg8 hc0 hc1 x0 x1 x2 x3).1)

/-- Case A's pieces for scratch `arg8`, which the kernel carries between points, cover it: 3 pieces of `S1024x2560` tiling it (Lib/Ring.lean `Piece.tiledL`). -/
theorem scover8_A_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : cond8_0 i) (hc1 : ¬cond8_1 i)
    (x0 : Vec F S1x1024x1280 .bf16) (x1 : Vec F S1x1024x1280 .bf16) (x2 : Vec F S1x2560x1280 .bf16) (x3 : Vec F S1x2560x1280 .bf16) (y : S1024x2560.Idx) :
    ∃ pc ∈ (kernelRun8_A c i arg3 harg3 arg4 harg4 arg5 harg5 arg6 harg6 arg7 harg7 arg8 harg8 hc0 hc1 x0 x1 x2 x3).2.1, y ∈ pc.1.set :=
  View.cover_of_tiledL (kernelRun8_A c i arg3 harg3 arg4 harg4 arg5 harg5 arg6 harg6 arg7 harg7 arg8 harg8 hc0 hc1 x0 x1 x2 x3).2.1 S1024x2560.size (by sl_kernel_rfl) y

/-- What case A leaves in scratch `arg8`: its pieces read back over junk. -/
def sout8_A_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : cond8_0 i) (hc1 : ¬cond8_1 i)
    (x0 : Vec F S1x1024x1280 .bf16) (x1 : Vec F S1x1024x1280 .bf16) (x2 : Vec F S1x2560x1280 .bf16) (x3 : Vec F S1x2560x1280 .bf16) : Vec F S1024x2560 .f32 :=
  VS8_0.read (Elt F) (VS8_0.writes (Elt F) VS8_0.junk (kernelRun8_A c i arg3 harg3 arg4 harg4 arg5 harg5 arg6 harg6 arg7 harg7 arg8 harg8 hc0 hc1 x0 x1 x2 x3).2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 318: 192 of 320), WITH the
    proof that on whole staging memrefs — the inputs' at their contents, the outputs it leaves idle (4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun8_B (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : ¬cond8_1 i)
    (x0 : Vec F S1x1024x1280 .bf16) (x1 : Vec F S1x1024x1280 .bf16) (x2 : Vec F S1x2560x1280 .bf16) (x3 : Vec F S1x2560x1280 .bf16) (xs0 : Vec F S1024x2560 .f32) :
    Σ' (L4 : List (View.Piece (Elt F) S1024x2560 .bf16)), { LS0 : List (View.Piece (Elt F) S1024x2560 .f32) //
      ∀ (xi4 : Vec F S1024x2560 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc8_dx i arg3 harg3 arg4 harg4 arg5 harg5 arg6 harg6 arg7 harg7 arg8 harg8) K } := by
  refine ⟨[], ?_, fun xi4 E K => ?run⟩
  case run =>
    simp only [cc8_dx_eq_skeleton]; unfold cc8_dx_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

/-- Case B stores nothing into output 4 (the window is idle at its points and not written back there):
    no pieces — a placeholder (junk read back) that nothing consults, since at these points the window is neither
    written back nor read at the next point (Lib/Pipeline.lean "Idle points"). -/
def out8_B_4 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : ¬cond8_1 i)
    (x0 : Vec F S1x1024x1280 .bf16) (x1 : Vec F S1x1024x1280 .bf16) (x2 : Vec F S1x2560x1280 .bf16) (x3 : Vec F S1x2560x1280 .bf16) (xs0 : Vec F S1024x2560 .f32) : Vec F S1024x2560 .bf16 :=
  VO8_4.read (Elt F) (VO8_4.writes (Elt F) VO8_4.junk (kernelRun8_B c i arg3 harg3 arg4 harg4 arg5 harg5 arg6 harg6 arg7 harg7 arg8 harg8 hc0 hc1 x0 x1 x2 x3 xs0).1)

/-- Case B's pieces for scratch `arg8`, which the kernel carries between points, cover it: 2 pieces of `S1024x2560` tiling it (Lib/Ring.lean `Piece.tiledL`). -/
theorem scover8_B_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : ¬cond8_1 i)
    (x0 : Vec F S1x1024x1280 .bf16) (x1 : Vec F S1x1024x1280 .bf16) (x2 : Vec F S1x2560x1280 .bf16) (x3 : Vec F S1x2560x1280 .bf16) (xs0 : Vec F S1024x2560 .f32) (y : S1024x2560.Idx) :
    ∃ pc ∈ (kernelRun8_B c i arg3 harg3 arg4 harg4 arg5 harg5 arg6 harg6 arg7 harg7 arg8 harg8 hc0 hc1 x0 x1 x2 x3 xs0).2.1, y ∈ pc.1.set :=
  View.cover_of_tiledL (kernelRun8_B c i arg3 harg3 arg4 harg4 arg5 harg5 arg6 harg6 arg7 harg7 arg8 harg8 hc0 hc1 x0 x1 x2 x3 xs0).2.1 S1024x2560.size (by sl_kernel_rfl) y

/-- What case B leaves in scratch `arg8`: its pieces read back over junk. -/
def sout8_B_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : ¬cond8_1 i)
    (x0 : Vec F S1x1024x1280 .bf16) (x1 : Vec F S1x1024x1280 .bf16) (x2 : Vec F S1x2560x1280 .bf16) (x3 : Vec F S1x2560x1280 .bf16) (xs0 : Vec F S1024x2560 .f32) : Vec F S1024x2560 .f32 :=
  VS8_0.read (Elt F) (VS8_0.writes (Elt F) VS8_0.junk (kernelRun8_B c i arg3 harg3 arg4 harg4 arg5 harg5 arg6 harg6 arg7 harg7 arg8 harg8 hc0 hc1 x0 x1 x2 x3 xs0).2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 4, 9, … 319: 64 of 320), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun8_C (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : cond8_1 i)
    (x0 : Vec F S1x1024x1280 .bf16) (x1 : Vec F S1x1024x1280 .bf16) (x2 : Vec F S1x2560x1280 .bf16) (x3 : Vec F S1x2560x1280 .bf16) (xs0 : Vec F S1024x2560 .f32) :
    Σ' (L4 : List (View.Piece (Elt F) S1024x2560 .bf16)), { LS0 : List (View.Piece (Elt F) S1024x2560 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc8_dx i arg3 harg3 arg4 harg4 arg5 harg5 arg6 harg6 arg7 harg7 arg8 harg8) K } := by
  refine ⟨?_, ?_, fun E K => ?run⟩
  case run =>
    simp only [cc8_dx_eq_skeleton]; unfold cc8_dx_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

/-- Case C's pieces for output 4 tile its block (1 store of `S1024x2560`, checked by the kernel's evaluation: Lib/Ring.lean `Piece.tiledL`, linear in the pieces, through a loop's `@[irreducible]` trip theorem too), so they cover it. -/
theorem cover8_C_4 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : cond8_1 i)
    (x0 : Vec F S1x1024x1280 .bf16) (x1 : Vec F S1x1024x1280 .bf16) (x2 : Vec F S1x2560x1280 .bf16) (x3 : Vec F S1x2560x1280 .bf16) (xs0 : Vec F S1024x2560 .f32) (y : S1024x2560.Idx) :
    ∃ pc ∈ (kernelRun8_C c i arg3 harg3 arg4 harg4 arg5 harg5 arg6 harg6 arg7 harg7 arg8 harg8 hc0 hc1 x0 x1 x2 x3 xs0).1, y ∈ pc.1.set :=
  View.cover_of_tiledL (kernelRun8_C c i arg3 harg3 arg4 harg4 arg5 harg5 arg6 harg6 arg7 harg7 arg8 harg8 hc0 hc1 x0 x1 x2 x3 xs0).1 S1024x2560.size (by sl_kernel_rfl) y

/-- What case C leaves in output 4's staging buffer: its pieces read back over junk. -/
def out8_C_4 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : cond8_1 i)
    (x0 : Vec F S1x1024x1280 .bf16) (x1 : Vec F S1x1024x1280 .bf16) (x2 : Vec F S1x2560x1280 .bf16) (x3 : Vec F S1x2560x1280 .bf16) (xs0 : Vec F S1024x2560 .f32) : Vec F S1024x2560 .bf16 :=
  VO8_4.read (Elt F) (VO8_4.writes (Elt F) VO8_4.junk (kernelRun8_C c i arg3 harg3 arg4 harg4 arg5 harg5 arg6 harg6 arg7 harg7 arg8 harg8 hc0 hc1 x0 x1 x2 x3 xs0).1)

/-- Case C's pieces for scratch `arg8`, which the kernel carries between points, cover it: 2 pieces of `S1024x2560` tiling it (Lib/Ring.lean `Piece.tiledL`). -/
theorem scover8_C_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : cond8_1 i)
    (x0 : Vec F S1x1024x1280 .bf16) (x1 : Vec F S1x1024x1280 .bf16) (x2 : Vec F S1x2560x1280 .bf16) (x3 : Vec F S1x2560x1280 .bf16) (xs0 : Vec F S1024x2560 .f32) (y : S1024x2560.Idx) :
    ∃ pc ∈ (kernelRun8_C c i arg3 harg3 arg4 harg4 arg5 harg5 arg6 harg6 arg7 harg7 arg8 harg8 hc0 hc1 x0 x1 x2 x3 xs0).2.1, y ∈ pc.1.set :=
  View.cover_of_tiledL (kernelRun8_C c i arg3 harg3 arg4 harg4 arg5 harg5 arg6 harg6 arg7 harg7 arg8 harg8 hc0 hc1 x0 x1 x2 x3 xs0).2.1 S1024x2560.size (by sl_kernel_rfl) y

/-- What case C leaves in scratch `arg8`: its pieces read back over junk. -/
def sout8_C_0 (c : Dev nD) (i : grid8.Coords) (arg3 : Memref sig .tc .vmem S1x1024x1280 .bf16) (harg3 : arg3.IsWhole) (arg4 : Memref sig .tc .vmem S1x1024x1280 .bf16) (harg4 : arg4.IsWhole) (arg5 : Memref sig .tc .vmem S1x2560x1280 .bf16) (harg5 : arg5.IsWhole) (arg6 : Memref sig .tc .vmem S1x2560x1280 .bf16) (harg6 : arg6.IsWhole) (arg7 : Memref sig .tc .vmem S1024x2560 .bf16) (harg7 : arg7.IsWhole) (arg8 : Memref sig .tc .vmem S1024x2560 .f32) (harg8 : arg8.IsWhole) (hc0 : ¬cond8_0 i) (hc1 : cond8_1 i)
    (x0 : Vec F S1x1024x1280 .bf16) (x1 : Vec F S1x1024x1280 .bf16) (x2 : Vec F S1x2560x1280 .bf16) (x3 : Vec F S1x2560x1280 .bf16) (xs0 : Vec F S1024x2560 .f32) : Vec F S1024x2560 .f32 :=
  VS8_0.read (Elt F) (VS8_0.writes (Elt F) VS8_0.junk (kernelRun8_C c i arg3 harg3 arg4 harg4 arg5 harg5 arg6 harg6 arg7 harg7 arg8 harg8 hc0 hc1 x0 x1 x2 x3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before8_W_κ`). An assignment of the conditions no point meets is no case (`False.elim`). -/
def outsAt8 (c : Dev nD) : (n : ℕ) → n < cfg8.N → Vec F S1024x2560 .bf16 × Vec F S1024x2560 .f32
  | 0, hn => (out8_A_4 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩))
  | n + 1, hn =>
    if h0 : (n + 1) % 5 = 0 then
      if h1 : (n + 1) % 5 = 4 then
        False.elim (by have hN : n + 1 < 320 := lt_of_lt_of_eq hn (show cfg8.N = 320 from N_8); omega)
      else
        (out8_A_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩))
    else
      if h1 : (n + 1) % 5 = 4 then
        (out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)
      else
        (out8_B_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2, sout8_B_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) (fun h => h0 ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2)

/-- `outsAt8` at a point of case A: that case's contents. -/
theorem outsAt8_A (c : Dev nD) (t : Fin cfg8.N) (h0 : t.val % 5 = 0) (h1 : ¬t.val % 5 = 4) :
    outsAt8 V c t.val t.isLt = (out8_A_4 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) ((hcond8_0 t).mpr h0) (fun h => h1 ((hcond8_1 t).mp h)) (iblk8 V c 0 t) (iblk8 V c 1 t) (iblk8 V c 2 t) (iblk8 V c 3 t)) := by
  obtain ⟨n, hn⟩ := t
  cases n with
  | zero => exact rfl
  | succ n => exact (dif_pos h0).trans ((dif_neg h1).trans rfl)

/-- `outsAt8` at a point of case B: that case's contents, over what the point before left. -/
theorem outsAt8_B (c : Dev nD) (t : Fin cfg8.N) (h0 : ¬t.val % 5 = 0) (h1 : ¬t.val % 5 = 4) :
    outsAt8 V c t.val t.isLt = (out8_B_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2, sout8_B_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) (fun h => h1 ((hcond8_1 t).mp h)) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt8` at a point of case C: that case's contents, over what the point before left. -/
theorem outsAt8_C (c : Dev nD) (t : Fin cfg8.N) (h0 : ¬t.val % 5 = 0) (h1 : t.val % 5 = 4) :
    outsAt8 V c t.val t.isLt = (out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt8`'s scratch components), the others at anything, and the generator register
    at some state. -/
def PhiS (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut spec8 c [cc8_scratch0]) ∗ (∃ r, prngReg c r))

theorem PhiS_zero (c : Dev nD) (n : ℕ) (h : n ≤ cfg8.N) (hz : n = 0) : PhiS V c n h = Pipeline.ΦA spec8 c := by
  subst hz; rfl

/-- After point `n` (before point `n + 1`): the carried scratch at that point's contents. -/
theorem PhiS_succ (c : Dev nD) (n : ℕ) (hn : n < cfg8.N) :
    PhiS V c (n + 1) hn = iprop(iprop(owns (c : Thread nD τ) scM8_0 fullShare ((outsAt8 V c n hn).2) ∗ Pipeline.scopedRestBut spec8 c [cc8_scratch0]) ∗ (∃ r, prngReg c r)) := rfl

/-- Before a point that is not the first: the carried scratch at what the point before left. -/
theorem PhiS_pos (c : Dev nD) (n : ℕ) (h : n ≤ cfg8.N) (hz : n ≠ 0) :
    PhiS V c n h = iprop(iprop(owns (c : Thread nD τ) scM8_0 fullShare ((outsAt8 V c (n - 1) (by omega)).2) ∗ Pipeline.scopedRestBut spec8 c [cc8_scratch0]) ∗ (∃ r, prngReg c r)) := by
  cases n with
  | zero => exact absurd rfl hz
  | succ n => rfl

/-! ## The pipeline's proof data -/

/-- The proof data of pipeline 8 on core `c`: the arrays as the region finds them (`V`); after the body at
    point `t` each input's buffer at its block and the outputs' at `outsAt8`; the invariant the class's
    (`PhiS`: the class's `ΦA` before the first point, then the scoped rest with the carried scratch at `outsAt8`'s component);
    nothing owed; each input's share of its array
    (`Pipeline.shareOf`: the full share of an array several windows stage, dealt among them). -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
  Φ t := PhiS V c t.val (Nat.le_of_lt_succ t.isLt)
  q w := Pipeline.shareOf spec8 w
  owed _ := 0

/-- The proof data's arrays are the region-entry contents, by projecting the definition (`dsimp`): a region record cites
    this for its arrays rather than have Lean unfold `V`, the fold through @main up to the region's entry. -/
theorem A_eq8 (c : Dev nD) (w : Fin cfg8.W) : (dat8 V c).A w = V c (Pipeline.arrRef spec8 w) := by
  dsimp only [dat8]

/-- The invariant at a point's start (the proof data at `t.castSucc`), restated at `t.val`. -/
theorem PhiS_castSucc (c : Dev nD) (t : Fin cfg8.N) :
    (dat8 V c).Φ t.castSucc = PhiS V c t.val (Nat.le_of_lt t.isLt) := by
  dsimp only [dat8]; exact Pipeline.Dat.Φ_castSucc (PhiS V c) t

/-- What the body leaves, window by window (the proof data's `match` reduced by `dsimp`). -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]

/-- Each input's current staging buffer holds its block at every point, fetched there or not (`beforeK_W_of`). -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t` (Lib/Pipeline.lean `BodyObligation`'s precondition, the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point: the inputs' memrefs hold their blocks (`before8_W`); the closed forms say which case the point is in (`by_cases`), an output the case reads before covering holds what the point before left (`before8_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS V c (t.val + 1) t.isLt from rfl, PhiS_succ]
  have hN : t.val < 320 := lt_of_lt_of_eq t.isLt (show cfg8.N = 320 from N_8)
  by_cases h0 : t.val % 5 = 0
  · by_cases h1 : t.val % 5 = 4
    · exfalso; omega
    · rw [show (dat8 V c).leavesExact 0 t = owns (c : Thread nD τ) (ms8_0 t) fullShare ((dat8 V c).after 0 t) from by
      unfold Dat.leavesExact; rw [liveAt8_0 t], after8_0]
      rw [show (dat8 V c).leavesExact 1 t = owns (c : Thread nD τ) (ms8_1 t) fullShare ((dat8 V c).after 1 t) from by
      unfold Dat.leavesExact; rw [liveAt8_1 t], after8_1]
      rw [show (dat8 V c).leavesExact 2 t = owns (c : Thread nD τ) (ms8_2 t) fullShare ((dat8 V c).after 2 t) from by
      unfold Dat.leavesExact; rw [liveAt8_2 t], after8_2]
      rw [show (dat8 V c).leavesExact 3 t = owns (c : Thread nD τ) (ms8_3 t) fullShare ((dat8 V c).after 3 t) from by
      unfold Dat.leavesExact; rw [liveAt8_3 t], after8_3]
      rw [Dat.leavesExact_idle (dat8 V c) 4 t (idleAt8_4_A t ((hcond8_0 t).mpr h0) (fun h => h1 ((hcond8_1 t).mp h))) (noFlush8_4_A t ((hcond8_0 t).mpr h0) (fun h => h1 ((hcond8_1 t).mp h)))]
      by_cases hz : t.val = 0
      · rw [PhiS_castSucc V c t, PhiS_zero V c _ _ hz, PhiA8_eq]
        rw [outsAt8_A V c t h0 h1]
        unfold sout8_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        rw [outsAt8_A V c t h0 h1]
        unfold sout8_A_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover8_A_0 c _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        iexists _; iexact H4
  · by_cases h1 : t.val % 5 = 4
    · rw [show (dat8 V c).leavesExact 0 t = owns (c : Thread nD τ) (ms8_0 t) fullShare ((dat8 V c).after 0 t) from by
      unfold Dat.leavesExact; rw [liveAt8_0 t], after8_0]
      rw [show (dat8 V c).leavesExact 1 t = owns (c : Thread nD τ) (ms8_1 t) fullShare ((dat8 V c).after 1 t) from by
      unfold Dat.leavesExact; rw [liveAt8_1 t], after8_1]
      rw [show (dat8 V c).leavesExact 2 t = owns (c : Thread nD τ) (ms8_2 t) fullShare ((dat8 V c).after 2 t) from by
      unfold Dat.leavesExact; rw [liveAt8_2 t], after8_2]
      rw [show (dat8 V c).leavesExact 3 t = owns (c : Thread nD τ) (ms8_3 t) fullShare ((dat8 V c).after 3 t) from by
      unfold Dat.leavesExact; rw [liveAt8_3 t], after8_3]
      rw [show (dat8 V c).leavesExact 4 t = owns (c : Thread nD τ) (ms8_4 t) fullShare ((dat8 V c).after 4 t) from by
      unfold Dat.leavesExact; rw [liveAt8_4_C t (fun h => h0 ((hcond8_0 t).mp h)) ((hcond8_1 t).mpr h1)], after8_4]
      by_cases hz : t.val = 0
      · exfalso; have hN : t.val < 320 := lt_of_lt_of_eq t.isLt (show cfg8.N = 320 from N_8); omega
      · rw [PhiS_castSucc V c t, PhiS_pos V c _ _ hz]
        rw [outsAt8_C V c t h0 h1]
        unfold out8_C_4 sout8_C_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) (iblk8 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover8_C_0 c _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover8_C_4 c _ _ _ _ _ _ _ _ _ _ _ _ _ _ _ _ _ _ _ _)
    · rw [show (dat8 V c).leavesExact 0 t = owns (c : Thread nD τ) (ms8_0 t) fullShare ((dat8 V c).after 0 t) from by
      unfold Dat.leavesExact; rw [liveAt8_0 t], after8_0]
      rw [show (dat8 V c).leavesExact 1 t = owns (c : Thread nD τ) (ms8_1 t) fullShare ((dat8 V c).after 1 t) from by
      unfold Dat.leavesExact; rw [liveAt8_1 t], after8_1]
      rw [show (dat8 V c).leavesExact 2 t = owns (c : Thread nD τ) (ms8_2 t) fullShare ((dat8 V c).after 2 t) from by
      unfold Dat.leavesExact; rw [liveAt8_2 t], after8_2]
      rw [show (dat8 V c).leavesExact 3 t = owns (c : Thread nD τ) (ms8_3 t) fullShare ((dat8 V c).after 3 t) from by
      unfold Dat.leavesExact; rw [liveAt8_3 t], after8_3]
      rw [Dat.leavesExact_idle (dat8 V c) 4 t (idleAt8_4_B t (fun h => h0 ((hcond8_0 t).mp h)) (fun h => h1 ((hcond8_1 t).mp h))) (noFlush8_4_B t (fun h => h0 ((hcond8_0 t).mp h)) (fun h => h1 ((hcond8_1 t).mp h)))]
      by_cases hz : t.val = 0
      · exfalso; have hN : t.val < 320 := lt_of_lt_of_eq t.isLt (show cfg8.N = 320 from N_8); omega
      · rw [PhiS_castSucc V c t, PhiS_pos V c _ _ hz]
        rw [outsAt8_B V c t h0 h1]
        unfold sout8_B_0; (try dsimp only)
        iintro ⟨⟨⟨HS0, HR1⟩, Hg⟩, Ho, ⟨%d0, H0⟩, ⟨%d1, H1⟩, ⟨%d2, H2⟩, ⟨%d3, H3⟩, ⟨%d4, H4⟩⟩
        iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) (iblk8 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR1 Hg]
        · isplitl [HS0 HR1]
          · isplitl [HS0]
            · unfold owns; iexists _; isplitr
              swap; · iexact HS0
              ipureintro; exact View.read_writes_of_cover _ _ _ _ _ (scover8_B_0 c _ _ _ _ _ _ _ _ _ _ _ _ _ _ _ _ _ _ _ _)
            iexact HR1
          iexact Hg
        isplitl [Ho]; · iexact Ho
        isplitl [H0]; · iexact H0
        isplitl [H1]; · iexact H1
        isplitl [H2]; · iexact H2
        isplitl [H3]; · iexact H3
        iexists _; iexact H4

/-- The body table's row at point `t`'s slots is the body as `bodyAt8` spells it. -/
theorem defs₀_row8 (t : Fin cfg8.N) :
    defs₀ (F := F) .tc cfg8.body (cfg8.bodyArgs t (cfg8.slots t)) = bodyAt8 t := by
  unfold defs₀; rw [Defs.onTc_tc]

/-- The library's body obligation, at every point: the body's triple restated (Lib/Pipeline/FrameBody.lean `triple_restated`). -/
theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

/-- What the launch hands the region (`ΦA`) is the invariant before the first point. -/
theorem hin (c : Dev nD) : Pipeline.ΦA spec8 c ⊢ (dat8 V c).Φ 0 := by
  rw [show (dat8 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg8.N + 1)) (ht : t.val ≠ 0) : (dat8 V c).Φ t ⊢ Pipeline.ΦA spec8 c := by
  rw [show (dat8 V c).Φ t = PhiS V c t.val (Nat.le_of_lt_succ t.isLt) from rfl, PhiS_pos V c _ _ ht, PhiA8_eq]
  iintro ⟨⟨HS0, HR1⟩, Hg⟩
  isplitl [HS0 HR1]
  · isplitl [HS0]
    · iexists _; iexact HS0
    iexact HR1
  iexact Hg

/-- The same after the last point. -/
theorem hout (c : Dev nD) : (dat8 V c).Φ (Fin.last cfg8.N) ⊢ Pipeline.ΦA spec8 c :=
  Phi_out V c _ (by rw [Fin.val_last]; have : cfg8.N = 320 := N_8; omega)

end Regions

end Cert.KernelIdeal.Gen

end
-- ==== Proof.Frame.Hosts0.lean ====
/- The stretches of host operations between the regions: what each writes, and that no argument array is among them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v5]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v10, main_v11]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps5` allocates a buffer. -/
theorem hostOps5_fresh : (hostOps5 : List (HloOp τ sig (Elt F))).Forall fun op => op.fresh = ∅ := by
  simp only [List.Forall]; repeat' constructor
/-- The reference each operation of `hostOps5` writes, in order. -/
abbrev hostOps5_W : List (Ref sig .tc) := [main_v14]
theorem hostOps5_writes : (hostOps5 : List (HloOp τ sig (Elt F))).Forall fun op => op.writes ⊆ (hostOps5_W.map (Proc.devRef (τ := τ) .tc)).toFinset :=
  StableHlo.forall_writes_sub_of_map rfl
/-- `hostOps5` writes none of the argument arrays (checked: each argument against each reference it writes). -/
theorem hostOps5_args : ∀ a ∈ argRefs, a ∉ hostOps5_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v16]
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

/-- No operation of `hostOps9` allocates a buffer. -/
theorem hostOps9_fresh : (hostOps9 : List (HloOp τ sig (Elt F))).Forall fun op => op.fresh = ∅ := by
  simp only [List.Forall]; repeat' constructor
/-- The reference each operation of `hostOps9` writes, in order. -/
abbrev hostOps9_W : List (Ref sig .tc) := [main_v20, main_v21, main_v22, main_v23, main_v24, main_v25, main_v26, main_v27, main_v28, main_v29, main_v30, main_v31, main_v32, main_v33, main_v34, main_v35]
theorem hostOps9_writes : (hostOps9 : List (HloOp τ sig (Elt F))).Forall fun op => op.writes ⊆ (hostOps9_W.map (Proc.devRef (τ := τ) .tc)).toFinset :=
  StableHlo.forall_writes_sub_of_map rfl
/-- `hostOps9` writes none of the argument arrays (checked: each argument against each reference it writes). -/
theorem hostOps9_args : ∀ a ∈ argRefs, a ∉ hostOps9_W := ListAll.forall_mem_of_all_decide (by decide +kernel)

end Cert.KernelIdeal.Gen

end
-- ==== Proof.Frame.Fold0.lean ====
/- The buffer contents at every boundary of @main's segments, a fold from the launch memory. -/
module

public import proofs.«01_k».proof.Proof.Frame.Region0
public import proofs.«01_k».proof.Proof.Frame.Region1
public import proofs.«01_k».proof.Proof.Frame.Region2
public import proofs.«01_k».proof.Proof.Frame.Region3
public import proofs.«01_k».proof.Proof.Frame.Region4
public import proofs.«01_k».proof.Proof.Frame.Region5
public import proofs.«01_k».proof.Proof.Frame.Region6
public import proofs.«01_k».proof.Proof.Frame.Region7
public import proofs.«01_k».proof.Proof.Frame.Region8
public import proofs.«01_k».proof.Proof.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`) (region 4's entry). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- At region 4's exit: its arrays at what the pipeline leaves (the inputs as entered, each output's write-backs
    folded: `Dat.arrAt … N`), every other buffer as entered (Lib/Pipeline/FrameSuffix.lean `withArrays`). -/
def W9 (c : Dev nD) : Valuation τ sig (Elt F) :=
  Pipeline.withArrays spec4 c (W8 m ρ c) fun w => (dat4 (V8 m ρ) c).arrAt w cfg4.N
theorem W9_arr (c : Dev nD) (w : Fin cfg4.W) :
    W9 m ρ c (Proc.devRef .tc (Pipeline.arrRef spec4 w)) = (dat4 (V8 m ρ) c).arrAt w cfg4.N := by
  unfold W9; exact (dat4 (V8 m ρ) c).withArrays_arrAt launch₀4.sharedIn _ (A_eq4 (V8 m ρ) c) w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
/-- A reference that is none of region 4's OUTPUT arrays keeps its entry contents across it: an input window's
    array is never written back (`Dat.arrAt_in`, `A_eq4`); any other buffer is left as is. -/
theorem W9_of (c : Dev nD) (r : Ref sig .tc) (h : ∀ w : Fin cfg4.W, Pipeline.arrRef spec4 w = r → (cfg4.win w).isOut = false) :
    W9 m ρ c (Proc.devRef .tc r) = W8 m ρ c (Proc.devRef .tc r) := by
  by_cases hw : ∃ w : Fin cfg4.W, Pipeline.arrRef spec4 w = r
  · obtain ⟨w, rfl⟩ := hw
    exact (W9_arr m ρ c w).trans (((dat4 (V8 m ρ) c).arrAt_in w (h w rfl) _).trans (A_eq4 (V8 m ρ) c w))
  · exact W9_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m ρ c (Proc.devRef .tc a) = m ((c : Thread nD τ).loc a) :=
  fun a ha => (W9_of m ρ c a (argsIn4 a ha)).trans (W8_args m ρ c a ha)
/-- The same read at the TensorCore's references (region 4's exit contents). -/
abbrev V9 : (c : Dev nD) → (b : Ref sig .tc) → Buf (Elt F) ((c : Thread nD τ).loc b) := fun c b => W9 m ρ c b
/-- At region 4's exit each of its arrays holds what the pipeline leaves (`hF4`) and every other buffer what it
    held at entry (`hrest4`): the two hypotheses of Lib/Pipeline/RegionsLoop.lean `unscopedBufs_of_arrays_shared`. -/
theorem hF4 (c : Dev nD) (w : Fin cfg4.W) : (dat4 (V8 m ρ) c).arrAt w cfg4.N = V9 m ρ c (Pipeline.arrRef spec4 w) :=
  (W9_arr m ρ c w).symm
theorem hrest4 (c : Dev nD) : ∀ b, b ∉ Finset.univ.image (Pipeline.arrRef spec4) → V9 m ρ c b = V8 m ρ c b :=
  fun b hb => W9_of_ne m ρ c b fun w e => hb (Finset.mem_image.mpr ⟨w, Finset.mem_univ _, e⟩)

/-- After `hostOps5` (region 5's entry). -/
abbrev W10 : Dev nD → Valuation τ sig (Elt F) := fun c => StableHlo.after hostOps5 (W9 m ρ c)
/-- A reference `hostOps5` does not write keeps its contents across it. -/
theorem W10_of (c : Dev nD) (r : Ref sig .tc) (h : r ∉ hostOps5_W) : W10 m ρ c (Proc.devRef .tc r) = W9 m ρ c (Proc.devRef .tc r) :=
  StableHlo.after_of_writes_sub hostOps5 _ hostOps5_writes h
theorem W10_args (c : Dev nD) : ∀ a ∈ argRefs, W10 m ρ c (Proc.devRef .tc a) = m ((c : Thread nD τ).loc a) :=
  fun a ha => (W10_of m ρ c a (hostOps5_args a ha)).trans (W9_args m ρ c a ha)
/-- The same read at the TensorCore's references (what region 5's proof data take). -/
abbrev V10 : (c : Dev nD) → (b : Ref sig .tc) → Buf (Elt F) ((c : Thread nD τ).loc b) := fun c b => W10 m ρ c b
/-- At region 5's exit: its arrays at what the pipeline leaves (the inputs as entered, each output's write-backs
    folded: `Dat.arrAt … N`), every other buffer as entered (Lib/Pipeline/FrameSuffix.lean `withArrays`). -/
def W11 (c : Dev nD) : Valuation τ sig (Elt F) :=
  Pipeline.withArrays spec5 c (W10 m ρ c) fun w => (dat5 (V10 m ρ) c).arrAt w cfg5.N
theorem W11_arr (c : Dev nD) (w : Fin cfg5.W) :
    W11 m ρ c (Proc.devRef .tc (Pipeline.arrRef spec5 w)) = (dat5 (V10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
/-- A reference that is none of region 5's OUTPUT arrays keeps its entry contents across it: an input window's
    array is never written back (`Dat.arrAt_in`, `A_eq5`); any other buffer is left as is. -/
theorem W11_of (c : Dev nD) (r : Ref sig .tc) (h : ∀ w : Fin cfg5.W, Pipeline.arrRef spec5 w = r → (cfg5.win w).isOut = false) :
    W11 m ρ c (Proc.devRef .tc r) = W10 m ρ c (Proc.devRef .tc r) := by
  by_cases hw : ∃ w : Fin cfg5.W, Pipeline.arrRef spec5 w = r
  · obtain ⟨w, rfl⟩ := hw
    exact (W11_arr m ρ c w).trans (((dat5 (V10 m ρ) c).arrAt_in w (h w rfl) _).trans (A_eq5 (V10 m ρ) c w))
  · exact W11_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W11_args (c : Dev nD) : ∀ a ∈ argRefs, W11 m ρ c (Proc.devRef .tc a) = m ((c : Thread nD τ).loc a) :=
  fun a ha => (W11_of m ρ c a (argsIn5 a ha)).trans (W10_args m ρ c a ha)
/-- The same read at the TensorCore's references (region 5's exit contents). -/
abbrev V11 : (c : Dev nD) → (b : Ref sig .tc) → Buf (Elt F) ((c : Thread nD τ).loc b) := fun c b => W11 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V10 m ρ) c).arrAt w cfg5.N = V11 m ρ c (Pipeline.arrRef spec5 w) :=
  (W11_arr m ρ c w).symm
theorem hrest5 (c : Dev nD) : ∀ b, b ∉ Finset.univ.image (Pipeline.arrRef spec5) → V11 m ρ c b = V10 m ρ c b :=
  fun b hb => W11_of_ne m ρ c b fun w e => hb (Finset.mem_image.mpr ⟨w, Finset.mem_univ _, e⟩)

/-- After `hostOps6` (region 6's entry). -/
abbrev W12 : Dev nD → Valuation τ sig (Elt F) := fun c => StableHlo.after hostOps6 (W11 m ρ c)
/-- A reference `hostOps6` does not write keeps its contents across it. -/
theorem W12_of (c : Dev nD) (r : Ref sig .tc) (h : r ∉ hostOps6_W) : W12 m ρ c (Proc.devRef .tc r) = W11 m ρ c (Proc.devRef .tc r) :=
  StableHlo.after_of_writes_sub hostOps6 _ hostOps6_writes h
theorem W12_args (c : Dev nD) : ∀ a ∈ argRefs, W12 m ρ c (Proc.devRef .tc a) = m ((c : Thread nD τ).loc a) :=
  fun a ha => (W12_of m ρ c a (hostOps6_args a ha)).trans (W11_args m ρ c a ha)
/-- The same read at the TensorCore's references (what region 6's proof data take). -/
abbrev V12 : (c : Dev nD) → (b : Ref sig .tc) → Buf (Elt F) ((c : Thread nD τ).loc b) := fun c b => W12 m ρ c b
/-- At region 6's exit: its arrays at what the pipeline leaves (the inputs as entered, each output's write-backs
    folded: `Dat.arrAt … N`), every other buffer as entered (Lib/Pipeline/FrameSuffix.lean `withArrays`) (region 7's entry). -/
def W13 (c : Dev nD) : Valuation τ sig (Elt F) :=
  Pipeline.withArrays spec6 c (W12 m ρ c) fun w => (dat6 (V12 m ρ) c).arrAt w cfg6.N
theorem W13_arr (c : Dev nD) (w : Fin cfg6.W) :
    W13 m ρ c (Proc.devRef .tc (Pipeline.arrRef spec6 w)) = (dat6 (V12 m ρ) c).arrAt w cfg6.N := by
  unfold W13; exact Pipeline.withArrays_arr spec6 launch6.win.arr_inj c _ _ w
theorem W13_of_ne (c : Dev nD) (b : Ref sig .tc) (hb : ∀ w, Pipeline.arrRef spec6 w ≠ b) :
    W13 m ρ c (Proc.devRef .tc b) = W12 m ρ c (Proc.devRef .tc b) := by
  unfold W13; exact Pipeline.withArrays_of_ne spec6 c _ _ b hb
/-- A reference that is none of region 6's OUTPUT arrays keeps its entry contents across it: an input window's
    array is never written back (`Dat.arrAt_in`, `A_eq6`); any other buffer is left as is. -/
theorem W13_of (c : Dev nD) (r : Ref sig .tc) (h : ∀ w : Fin cfg6.W, Pipeline.arrRef spec6 w = r → (cfg6.win w).isOut = false) :
    W13 m ρ c (Proc.devRef .tc r) = W12 m ρ c (Proc.devRef .tc r) := by
  by_cases hw : ∃ w : Fin cfg6.W, Pipeline.arrRef spec6 w = r
  · obtain ⟨w, rfl⟩ := hw
    exact (W13_arr m ρ c w).trans (((dat6 (V12 m ρ) c).arrAt_in w (h w rfl) _).trans (A_eq6 (V12 m ρ) c w))
  · exact W13_of_ne m ρ c r fun w e => hw ⟨w, e⟩
/-- Every argument among region 6's arrays is an input window's (checked: each argument against each window). -/
theorem argsIn6 : ∀ a ∈ argRefs, ∀ w : Fin cfg6.W, Pipeline.arrRef spec6 w = a → (cfg6.win w).isOut = false :=
  ListAll.forall_mem_of_all_decide (by decide +kernel)
theorem W13_args (c : Dev nD) : ∀ a ∈ argRefs, W13 m ρ c (Proc.devRef .tc a) = m ((c : Thread nD τ).loc a) :=
  fun a ha => (W13_of m ρ c a (argsIn6 a ha)).trans (W12_args m ρ c a ha)
/-- The same read at the TensorCore's references (region 6's exit contents). -/
abbrev V13 : (c : Dev nD) → (b : Ref sig .tc) → Buf (Elt F) ((c : Thread nD τ).loc b) := fun c b => W13 m ρ c b
/-- At region 6's exit each of its arrays holds what the pipeline leaves (`hF6`) and every other buffer what it
    held at entry (`hrest6`): the two hypotheses of Lib/Pipeline/RegionsLoop.lean `unscopedBufs_of_arrays`. -/
theorem hF6 (c : Dev nD) (w : Fin cfg6.W) : (dat6 (V12 m ρ) c).arrAt w cfg6.N = V13 m ρ c (Pipeline.arrRef spec6 w) :=
  (W13_arr m ρ c w).symm
theorem hrest6 (c : Dev nD) : ∀ b, b ∉ Finset.univ.image (Pipeline.arrRef spec6) → V13 m ρ c b = V12 m ρ c b :=
  fun b hb => W13_of_ne m ρ c b fun w e => hb (Finset.mem_image.mpr ⟨w, Finset.mem_univ _, e⟩)

/-- At region 7's exit: its arrays at what the pipeline leaves (the inputs as entered, each output's write-backs
    folded: `Dat.arrAt … N`), every other buffer as entered (Lib/Pipeline/FrameSuffix.lean `withArrays`) (region 8's entry). -/
def W14 (c : Dev nD) : Valuation τ sig (Elt F) :=
  Pipeline.withArrays spec7 c (W13 m ρ c) fun w => (dat7 (V13 m ρ) c).arrAt w cfg7.N
theorem W14_arr (c : Dev nD) (w : Fin cfg7.W) :
    W14 m ρ c (Proc.devRef .tc (Pipeline.arrRef spec7 w)) = (dat7 (V13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
/-- A reference that is none of region 7's OUTPUT arrays keeps its entry contents across it: an input window's
    array is never written back (`Dat.arrAt_in`, `A_eq7`); any other buffer is left as is. -/
theorem W14_of (c : Dev nD) (r : Ref sig .tc) (h : ∀ w : Fin cfg7.W, Pipeline.arrRef spec7 w = r → (cfg7.win w).isOut = false) :
    W14 m ρ c (Proc.devRef .tc r) = W13 m ρ c (Proc.devRef .tc r) := by
  by_cases hw : ∃ w : Fin cfg7.W, Pipeline.arrRef spec7 w = r
  · obtain ⟨w, rfl⟩ := hw
    exact (W14_arr m ρ c w).trans (((dat7 (V13 m ρ) c).arrAt_in w (h w rfl) _).trans (A_eq7 (V13 m ρ) c w))
  · exact W14_of_ne m ρ c r fun w e => hw ⟨w, e⟩
/-- Every argument among region 7's arrays is an input window's (checked: each argument against each window). -/
theorem argsIn7 : ∀ a ∈ argRefs, ∀ w : Fin cfg7.W, Pipeline.arrRef spec7 w = a → (cfg7.win w).isOut = false :=
  ListAll.forall_mem_of_all_decide (by decide +kernel)
theorem W14_args (c : Dev nD) : ∀ a ∈ argRefs, W14 m ρ c (Proc.devRef .tc a) = m ((c : Thread nD τ).loc a) :=
  fun a ha => (W14_of m ρ c a (argsIn7 a ha)).trans (W13_args m ρ c a ha)
/-- The same read at the TensorCore's references (region 7's exit contents). -/
abbrev V14 : (c : Dev nD) → (b : Ref sig .tc) → Buf (Elt F) ((c : Thread nD τ).loc b) := fun c b => W14 m ρ c b
/-- At region 7's exit each of its arrays holds what the pipeline leaves (`hF7`) and every other buffer what it
    held at entry (`hrest7`): the two hypotheses of Lib/Pipeline/RegionsLoop.lean `unscopedBufs_of_arrays`. -/
theorem hF7 (c : Dev nD) (w : Fin cfg7.W) : (dat7 (V13 m ρ) c).arrAt w cfg7.N = V14 m ρ c (Pipeline.arrRef spec7 w) :=
  (W14_arr m ρ c w).symm
theorem hrest7 (c : Dev nD) : ∀ b, b ∉ Finset.univ.image (Pipeline.arrRef spec7) → V14 m ρ c b = V13 m ρ c b :=
  fun b hb => W14_of_ne m ρ c b fun w e => hb (Finset.mem_image.mpr ⟨w, Finset.mem_univ _, e⟩)

/-- At region 8's exit: its arrays at what the pipeline leaves (the inputs as entered, each output's write-backs
    folded: `Dat.arrAt … N`), every other buffer as entered (Lib/Pipeline/FrameSuffix.lean `withArrays`). -/
def W15 (c : Dev nD) : Valuation τ sig (Elt F) :=
  Pipeline.withArrays spec8 c (W14 m ρ c) fun w => (dat8 (V14 m ρ) c).arrAt w cfg8.N
theorem W15_arr (c : Dev nD) (w : Fin cfg8.W) :
    W15 m ρ c (Proc.devRef .tc (Pipeline.arrRef spec8 w)) = (dat8 (V14 m ρ) c).arrAt w cfg8.N := by
  unfold W15; exact (dat8 (V14 m ρ) c).withArrays_arrAt launch₀8.sharedIn _ (A_eq8 (V14 m ρ) c) w
theorem W15_of_ne (c : Dev nD) (b : Ref sig .tc) (hb : ∀ w, Pipeline.arrRef spec8 w ≠ b) :
    W15 m ρ c (Proc.devRef .tc b) = W14 m ρ c (Proc.devRef .tc b) := by
  unfold W15; exact Pipeline.withArrays_of_ne spec8 c _ _ b hb
/-- A reference that is none of region 8's OUTPUT arrays keeps its entry contents across it: an input window's
    array is never written back (`Dat.arrAt_in`, `A_eq8`); any other buffer is left as is. -/
theorem W15_of (c : Dev nD) (r : Ref sig .tc) (h : ∀ w : Fin cfg8.W, Pipeline.arrRef spec8 w = r → (cfg8.win w).isOut = false) :
    W15 m ρ c (Proc.devRef .tc r) = W14 m ρ c (Proc.devRef .tc r) := by
  by_cases hw : ∃ w : Fin cfg8.W, Pipeline.arrRef spec8 w = r
  · obtain ⟨w, rfl⟩ := hw
    exact (W15_arr m ρ c w).trans (((dat8 (V14 m ρ) c).arrAt_in w (h w rfl) _).trans (A_eq8 (V14 m ρ) c w))
  · exact W15_of_ne m ρ c r fun w e => hw ⟨w, e⟩
/-- Every argument among region 8's arrays is an input window's (checked: each argument against each window). -/
theorem argsIn8 : ∀ a ∈ argRefs, ∀ w : Fin cfg8.W, Pipeline.arrRef spec8 w = a → (cfg8.win w).isOut = false :=
  ListAll.forall_mem_of_all_decide (by decide +kernel)
theorem W15_args (c : Dev nD) : ∀ a ∈ argRefs, W15 m ρ c (Proc.devRef .tc a) = m ((c : Thread nD τ).loc a) :=
  fun a ha => (W15_of m ρ c a (argsIn8 a ha)).trans (W14_args m ρ c a ha)
/-- The same read at the TensorCore's references (region 8's exit contents). -/
abbrev V15 : (c : Dev nD) → (b : Ref sig .tc) → Buf (Elt F) ((c : Thread nD τ).loc b) := fun c b => W15 m ρ c b
/-- At region 8's exit each of its arrays holds what the pipeline leaves (`hF8`) and every other buffer what it
    held at entry (`hrest8`): the two hypotheses of Lib/Pipeline/RegionsLoop.lean `unscopedBufs_of_arrays_shared`. -/
theorem hF8 (c : Dev nD) (w : Fin cfg8.W) : (dat8 (V14 m ρ) c).arrAt w cfg8.N = V15 m ρ c (Pipeline.arrRef spec8 w) :=
  (W15_arr m ρ c w).symm
theorem hrest8 (c : Dev nD) : ∀ b, b ∉ Finset.univ.image (Pipeline.arrRef spec8) → V15 m ρ c b = V14 m ρ c b :=
  fun b hb => W15_of_ne m ρ c b fun w e => hb (Finset.mem_image.mpr ⟨w, Finset.mem_univ _, e⟩)

/-- After `hostOps9`. -/
abbrev W16 : Dev nD → Valuation τ sig (Elt F) := fun c => StableHlo.after hostOps9 (W15 m ρ c)
/-- A reference `hostOps9` does not write keeps its contents across it. -/
theorem W16_of (c : Dev nD) (r : Ref sig .tc) (h : r ∉ hostOps9_W) : W16 m ρ c (Proc.devRef .tc r) = W15 m ρ c (Proc.devRef .tc r) :=
  StableHlo.after_of_writes_sub hostOps9 _ hostOps9_writes h
theorem W16_args (c : Dev nD) : ∀ a ∈ argRefs, W16 m ρ c (Proc.devRef .tc a) = m ((c : Thread nD τ).loc a) :=
  fun a ha => (W16_of m ρ c a (hostOps9_args a ha)).trans (W15_args m ρ c a ha)

/-! ### The arguments end as launched: no host stretch writes one and no region may change one (a region reads it
    through an input window or bypasses it) -/

theorem W16_main_arg0 (c : Dev nD) : W16 m ρ c (Proc.devRef .tc main_arg0) = m ((c : Thread nD τ).loc main_arg0) :=
  W16_args m ρ c main_arg0 (by decide)
theorem W16_main_arg1 (c : Dev nD) : W16 m ρ c (Proc.devRef .tc main_arg1) = m ((c : Thread nD τ).loc main_arg1) :=
  W16_args m ρ c main_arg1 (by decide)
theorem W16_main_arg2 (c : Dev nD) : W16 m ρ c (Proc.devRef .tc main_arg2) = m ((c : Thread nD τ).loc main_arg2) :=
  W16_args m ρ c main_arg2 (by decide)
theorem W16_main_arg3 (c : Dev nD) : W16 m ρ c (Proc.devRef .tc main_arg3) = m ((c : Thread nD τ).loc main_arg3) :=
  W16_args m ρ c main_arg3 (by decide)
theorem W16_main_arg4 (c : Dev nD) : W16 m ρ c (Proc.devRef .tc main_arg4) = m ((c : Thread nD τ).loc main_arg4) :=
  W16_args m ρ c main_arg4 (by decide)
theorem W16_main_arg5 (c : Dev nD) : W16 m ρ c (Proc.devRef .tc main_arg5) = m ((c : Thread nD τ).loc main_arg5) :=
  W16_args m ρ c main_arg5 (by decide)
theorem W16_main_arg6 (c : Dev nD) : W16 m ρ c (Proc.devRef .tc main_arg6) = m ((c : Thread nD τ).loc main_arg6) :=
  W16_args m ρ c main_arg6 (by decide)
theorem W16_main_arg7 (c : Dev nD) : W16 m ρ c (Proc.devRef .tc main_arg7) = m ((c : Thread nD τ).loc main_arg7) :=
  W16_args m ρ c main_arg7 (by decide)
end Cert.KernelIdeal.Gen

end
-- ==== Proof.Frame.State.lean ====
/- The family of proof data of the nine pipelines, and the state a thread holds between segments. -/
module

public import proofs.«01_k».proof.Proof.Frame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 9) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 9) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V8 m ρ) c
  | ⟨5, _⟩ => fun c => dat5 (V10 m ρ) c
  | ⟨6, _⟩ => fun c => dat6 (V12 m ρ) c
  | ⟨7, _⟩ => fun c => dat7 (V13 m ρ) c
  | ⟨8, _⟩ => fun c => dat8 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W16`, the generator register at some state. -/
abbrev Tₙ (c : Dev nD) : sProp 𝕄 := iprop(StableHlo.held (c : Thread nD τ) (Pipeline.ucRefs τ sig) (W16 m ρ c) ∗ ∃ r, prngReg c r)

end Cert.KernelIdeal.Gen

end
-- ==== Proof.Frame.Record0.lean ====
/- Region 0 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/- Region 1 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
/- Region 2 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record3.lean ====
/- Region 3 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record4.lean ====
/- Region 4 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W8`, left at `W9`
    (what the next segment is entered from). Its arrays split out of the unscoped buffers
    (`arrays_of_unscopedBufs_shared`) and put back at the exit contents (`unscopedBufs_of_arrays_shared`; its input windows on one array (`launch₀4.sharedIn`) each dealt their share of it, `Pipeline.shareOf`, by the proof data); the generator register into the
    class invariant `ΦA` and out; nothing owed; no semaphore of the kernel's own. -/
def reg4 : Pipeline.RegionSeg (pcfgs (F := F)) adm (pdats m ρ) () defs₀ 𝒱₀ L lv 4 where
  win := launch₀4.win
  block_pos := launch₀4.block_pos
  stage_whole := launch₀4.stage_whole
  K := PEmpty
  osem k := k.elim
  ho := Pipeline.OwnSemFacts.none _
  hbody c := (body_obligation4 (V8 m ρ) c).loose
  hwaits := Pipeline.hwaits_of_owed_zero _ _ _ _ L lv 4 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec4 c (V8 m ρ c)
  hentry c := by
    rw [Pipeline.ownSems0_none]
    have hsplit := Pipeline.arrays_of_unscopedBufs_shared (p := 4) (pcfgs (F := F)) adm (pdats m ρ) launch₀4.win launch₀4.sharedIn launch₀4.arr_whole c
      (fun _ _ => rfl) (V8 m ρ c) (A_eq4 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays_shared (p := 4) (pcfgs (F := F)) adm (Ix := Unit) (Name := ℕ) (U := UR sig nD τ) (Lvl := ℕ)
      launch₀4.win launch₀4.sharedIn launch₀4.arr_whole c (pdats m ρ) (fun _ _ => rfl)
      (V8 m ρ c) (V9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record5.lean ====
/- Region 5 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W10`, left at `W11`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V10 m ρ) c).loose
  hwaits := Pipeline.hwaits_of_owed_zero _ _ _ _ L lv 5 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec5 c (V10 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V10 m ρ c) (A_eq5 (V10 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V10 m ρ c) (V11 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record6.lean ====
/- Region 6 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 6 (custom_call 6) over the thread state: entered from every unscoped buffer at `W12`, left at `W13`
    (what the next segment is entered from). Its arrays split out of the unscoped buffers
    (`arrays_of_unscopedBufs`) and put back at the exit contents (`unscopedBufs_of_arrays`); the generator register into the
    class invariant `ΦA` and out; nothing owed; no semaphore of the kernel's own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V12 m ρ) c).loose
  hwaits := Pipeline.hwaits_of_owed_zero _ _ _ _ L lv 6 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec6 c (V12 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V12 m ρ c) (A_eq6 (V12 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V12 m ρ c) (V13 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record7.lean ====
/- Region 7 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 7 (custom_call 7) over the thread state: entered from every unscoped buffer at `W13`, left at `W14`
    (what the next segment is entered from). Its arrays split out of the unscoped buffers
    (`arrays_of_unscopedBufs`) and put back at the exit contents (`unscopedBufs_of_arrays`); the generator register into the
    class invariant `ΦA` and out; nothing owed; no semaphore of the kernel's own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V13 m ρ) c).loose
  hwaits := Pipeline.hwaits_of_owed_zero _ _ _ _ L lv 7 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec7 c (V13 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V13 m ρ c) (A_eq7 (V13 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V13 m ρ c) (V14 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record8.lean ====
/- Region 8 as a segment of @main's run: entered from every unscoped buffer at one boundary's contents, left at the next's. -/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 280000 in
-- `iapply` of a library lemma stated over `pin pcs a p` unifies with the pinned configuration only when unification may
-- unfold plain definitions in a metavariable's type
set_option backward.isDefEq.respectTransparency.types false in
/-- REGION 8 (custom_call 8) over the thread state: entered from every unscoped buffer at `W14`, left at `W15`
    (what the next segment is entered from). Its arrays split out of the unscoped buffers
    (`arrays_of_unscopedBufs_shared`) and put back at the exit contents (`unscopedBufs_of_arrays_shared`; its input windows on one array (`launch₀8.sharedIn`) each dealt their share of it, `Pipeline.shareOf`, by the proof data); the generator register into the
    class invariant `ΦA` and out; nothing owed; no semaphore of the kernel's own. -/
def reg8 : Pipeline.RegionSeg (pcfgs (F := F)) adm (pdats m ρ) () defs₀ 𝒱₀ L lv 8 where
  win := launch₀8.win
  block_pos := launch₀8.block_pos
  stage_whole := launch₀8.stage_whole
  K := PEmpty
  osem k := k.elim
  ho := Pipeline.OwnSemFacts.none _
  hbody c := (body_obligation8 (V14 m ρ) c).loose
  hwaits := Pipeline.hwaits_of_owed_zero _ _ _ _ L lv 8 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec8 c (V14 m ρ c)
  hentry c := by
    rw [Pipeline.ownSems0_none]
    have hsplit := Pipeline.arrays_of_unscopedBufs_shared (p := 8) (pcfgs (F := F)) adm (pdats m ρ) launch₀8.win launch₀8.sharedIn launch₀8.arr_whole c
      (fun _ _ => rfl) (V14 m ρ c) (A_eq8 (V14 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : ∀ P : sProp 𝕄, iprop((∃ r, prngReg c r) ∗ P ∗ Pipeline.scopedRest spec8 c) ⊢ (Pipeline.ΦA spec8 c : sProp 𝕄) := by
      intro P
      unfold Pipeline.ΦA
      iintro ⟨Hp, -, Hr⟩
      isplitl [Hr]; · iexact Hr
      iexact Hp
    exact Idealize.SL.BI.Entails.trans (h _) (hin (V14 m ρ) c)
  hout c := by
    have h : (Pipeline.ΦA spec8 c : sProp 𝕄) ⊢ iprop((∃ r, prngReg c r) ∗ emp ∗ Pipeline.scopedRest spec8 c) := by
      unfold Pipeline.ΦA
      iintro ⟨Hr, Hp⟩
      isplitl [Hp]; · iexact Hp
      isplitr; · iempintro
      iexact Hr
    rw [Pipeline.ownSems0_none]
    exact Idealize.SL.BI.Entails.trans (hout (V14 m ρ) c) h
  hexit c := by
    have hjoin := Pipeline.unscopedBufs_of_arrays_shared (p := 8) (pcfgs (F := F)) adm (Ix := Unit) (Name := ℕ) (U := UR sig nD τ) (Lvl := ℕ)
      launch₀8.win launch₀8.sharedIn launch₀8.arr_whole c (pdats m ρ) (fun _ _ => rfl)
      (V14 m ρ c) (V15 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Run.lean ====
/- THE RUN of @main: nine pipelined regions among stretches of host operations. Every fair execution from zero counters
   terminates with every unscoped buffer at the last boundary's contents `W16` and every counter at zero (`run_all`); the
   argument arrays unchanged (`frame`). -/
module

public import proofs.«01_k».proof.Proof.Frame.Record0
public import proofs.«01_k».proof.Proof.Frame.Record1
public import proofs.«01_k».proof.Proof.Frame.Record2
public import proofs.«01_k».proof.Proof.Frame.Record3
public import proofs.«01_k».proof.Proof.Frame.Record4
public import proofs.«01_k».proof.Proof.Frame.Record5
public import proofs.«01_k».proof.Proof.Frame.Record6
public import proofs.«01_k».proof.Proof.Frame.Record7
public import proofs.«01_k».proof.Proof.Frame.Record8

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 16 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .region (reg4 m ρ),
    .host (hseg hostOps5 hostOps5_sub hostOps5_fresh (W9 m ρ)),
    .region (reg5 m ρ),
    .host (hseg hostOps6 hostOps6_sub hostOps6_fresh (W11 m ρ)),
    .region (reg6 m ρ),
    .region (reg7 m ρ),
    .region (reg8 m ρ),
    .host (hseg hostOps9 hostOps9_sub hostOps9_fresh (W15 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every weakly fair execution of @main from zero counters terminates, nothing faulting, with every unscoped buffer at the
    last boundary's contents and every counter at zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W16 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => ⟨h, funext fun g => hz g (.inr (no_unscoped g.2))⟩)

/-- The argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r hr => ⟨fun c =>
      ⟨(hr.1 c _ (mem_uc main_arg0 (by decide))).trans (W16_main_arg0 m ρ c),
       (hr.1 c _ (mem_uc main_arg1 (by decide))).trans (W16_main_arg1 m ρ c),
       (hr.1 c _ (mem_uc main_arg2 (by decide))).trans (W16_main_arg2 m ρ c),
       (hr.1 c _ (mem_uc main_arg3 (by decide))).trans (W16_main_arg3 m ρ c),
       (hr.1 c _ (mem_uc main_arg4 (by decide))).trans (W16_main_arg4 m ρ c),
       (hr.1 c _ (mem_uc main_arg5 (by decide))).trans (W16_main_arg5 m ρ c),
       (hr.1 c _ (mem_uc main_arg6 (by decide))).trans (W16_main_arg6 m ρ c),
       (hr.1 c _ (mem_uc main_arg7 (by decide))).trans (W16_main_arg7 m ρ c)⟩, hr.2⟩) (run_all m ρ)

end Cert.KernelIdeal.Gen

end
-- ==== Proof.Value.Hidden.lean ====
/- REGION 4: the hidden activations and their gradients. -/
module

public import proofs.«01_k».proof.Proof.Frame.Region4
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

/-- The hidden activation of gate `g` and up `u`. -/
def hE (g u : EReal) : EReal := g * Ideal.logistic g * u
/-- The gate's gradient. -/
def dgE (g u d : EReal) : EReal := d * u * Ideal.logistic g * (1 + g * (1 - Ideal.logistic g))
/-- The up projection's gradient. -/
def duE (g d : EReal) : EReal := d * g * Ideal.logistic g

section Block
variable (x0 x1 : Vec Ideal S512x5120 .bf16) (x2 x3 : Vec Ideal S1x5120x256 .bf16) (x4 : Vec Ideal S256x5120 .bf16)

/-- One element of a block's product with a weight's block of columns. -/
def mulB (x : S512x5120.Idx → EReal) (w : S1x5120x256.Idx → EReal) (r : Fin 512) (j : Fin 256) : EReal :=
  ∑ d : Fin 5120, x (ix2 r d) * w (ix3 0 d j)
/-- One element of a block's product with a weight's block of rows. -/
def mulBt (x : S512x5120.Idx → EReal) (w : S256x5120.Idx → EReal) (r : Fin 512) (j : Fin 256) : EReal :=
  ∑ d : Fin 5120, x (ix2 r d) * w (ix2 j d)

theorem pay4_7 (j : S512x256.Idx) : (k4_pay7 x0 x2 j : EReal) = mulB x0 x2 (j 0) (j 1) := by
  unfold k4_pay7 k4_pay6 mulB
  pointwise
theorem pay4_8 (j : S512x256.Idx) : (k4_pay8 x0 x2 j : EReal) = mulB x0 x2 (j 0) (j 1) := by
  unfold k4_pay8 k4_pay6 mulB
  pointwise
theorem pay4_9 (j : S512x256.Idx) : (k4_pay9 x1 x4 j : EReal) = mulBt x1 x4 (j 0) (j 1) := by
  unfold k4_pay9 mulBt
  pointwise
theorem pay4_11 (j : S512x256.Idx) : (k4_pay11 x0 x2 x3 j : EReal)
    = hE (mulB x0 x2 (j 0) (j 1)) (mulB x0 x3 (j 0) (j 1)) := by
  rw [← pay4_7, ← pay4_8]; rfl
theorem pay4_12 (j : S512x256.Idx) : (k4_pay12 x0 x2 x3 x1 x4 j : EReal)
    = dgE (mulB x0 x2 (j 0) (j 1)) (mulB x0 x3 (j 0) (j 1)) (mulBt x1 x4 (j 0) (j 1)) := by
  rw [← pay4_7, ← pay4_8, ← pay4_9]
  unfold k4_pay12 k4_pay10 dgE
  pointwise
theorem pay4_13 (j : S512x256.Idx) : (k4_pay13 x0 x2 x1 x4 j : EReal)
    = duE (mulB x0 x2 (j 0) (j 1)) (mulBt x1 x4 (j 0) (j 1)) := by
  rw [← pay4_7, ← pay4_9]; rfl

/-- The largest magnitude among the 128 elements of a group. -/
def amaxE (f : Fin 128 → EReal) : EReal :=
  Finset.fold max (Ideal.ofBits .f32 0xFF800000#32) (fun x => FloatOps.absf (F := Ideal) (φ := .f32) (f x)) Finset.univ

theorem pay4_4 (v : FVec Ideal S512x256 .bf16) (j : S1x2x512.Idx) : (k4_pay4 v j : EReal)
    = amaxE fun k => v (ix2 (j 2) ⟨(j 1 : ℕ) * 128 + k, by idx_bounds j; omega⟩) := by
  unfold k4_pay4 amaxE
  pointwise
theorem pay4_3 (v : FVec Ideal S512x256 .bf16) : k4_pay3 v = k4_pay4 v := rfl
theorem pay4_5 (v : FVec Ideal S512x256 .bf16) : k4_pay5 v = k4_pay4 v := rfl

theorem ld4_0 (x : Vec Ideal S512x5120 .bf16) : View.ld x r4_0 = x :=
  View.ld_unit_zero (funext fun a => by fin_cases a <;> rfl) _ _
theorem ld4_1 (x : Vec Ideal S1x5120x256 .bf16) : View.ld x r4_1 = x :=
  View.ld_unit_zero (funext fun a => by fin_cases a <;> rfl) _ _
theorem ld4_2 (x : Vec Ideal S256x5120 .bf16) : View.ld x r4_2 = x :=
  View.ld_unit_zero (funext fun a => by fin_cases a <;> rfl) _ _

theorem out4_5_apply (y : S256x512.Idx) : (out4_5 x0 x1 x2 x3 x4 y : EReal)
    = hE (mulB x0 x2 (y 1) (y 0)) (mulB x0 x3 (y 1) (y 0)) := by
  canon_tiles x h
  have hx : x = y := funext fun a => by fin_cases a <;> apply Fin.ext <;> simp <;> omega
  subst hx
  refine Eq.trans ?_ (pay4_11 x0 x2 x3 (ix2 (x 1) (x 0)))
  unfold k4_pay2 k4_pay15
  rw [ld4_0, ld4_1, ld4_1]
  pointwise
theorem out4_6_apply (y : S1x512x256.Idx) : (out4_6 x0 x1 x2 x3 x4 y : EReal)
    = dgE (mulB x0 x2 (y 1) (y 2)) (mulB x0 x3 (y 1) (y 2)) (mulBt x1 x4 (y 1) (y 2)) := by
  canon_tiles x h
  have hx : x = y := funext fun a => by fin_cases a <;> apply Fin.ext <;> simp <;> omega
  subst hx
  refine Eq.trans ?_ (pay4_12 x0 x1 x2 x3 x4 (ix2 (x 1) (x 2)))
  rw [ld4_0, ld4_0, ld4_1, ld4_1, ld4_2]
  unfold k4_pay14
  pointwise
theorem out4_7_apply (y : S1x512x256.Idx) : (out4_7 x0 x1 x2 x3 x4 y : EReal)
    = duE (mulB x0 x2 (y 1) (y 2)) (mulBt x1 x4 (y 1) (y 2)) := by
  canon_tiles x h
  have hx : x = y := funext fun a => by fin_cases a <;> apply Fin.ext <;> simp <;> omega
  subst hx
  refine Eq.trans ?_ (pay4_13 x0 x1 x2 x4 (ix2 (x 1) (x 2)))
  unfold k4_pay1 k4_pay16
  rw [ld4_0, ld4_0, ld4_1, ld4_2]
  pointwise
theorem out4_8_apply (y : S1x2x512.Idx) : (out4_8 x0 x1 x2 x3 x4 y : EReal)
    = amaxE fun k => hE (mulB x0 x2 (y 2) ⟨(y 1 : ℕ) * 128 + k, by idx_bounds y; omega⟩)
        (mulB x0 x3 (y 2) ⟨(y 1 : ℕ) * 128 + k, by idx_bounds y; omega⟩) := by
  canon_tiles x h
  have hx : x = y := funext fun a => by fin_cases a <;> apply Fin.ext <;> simp <;> omega
  subst hx
  rw [pay4_3, pay4_4]
  refine congrArg amaxE (funext fun k => ?_)
  unfold k4_pay15
  rw [ld4_0, ld4_1, ld4_1]
  exact pay4_11 x0 x2 x3 (ix2 _ _)
theorem out4_9_apply (y : S1x2x512.Idx) : (out4_9 x0 x1 x2 x3 x4 y : EReal)
    = amaxE fun k => dgE (mulB x0 x2 (y 2) ⟨(y 1 : ℕ) * 128 + k, by idx_bounds y; omega⟩)
        (mulB x0 x3 (y 2) ⟨(y 1 : ℕ) * 128 + k, by idx_bounds y; omega⟩)
        (mulBt x1 x4 (y 2) ⟨(y 1 : ℕ) * 128 + k, by idx_bounds y; omega⟩) := by
  canon_tiles x h
  have hx : x = y := funext fun a => by fin_cases a <;> apply Fin.ext <;> simp <;> omega
  subst hx
  rw [pay4_4, ld4_0, ld4_0, ld4_1, ld4_1, ld4_2]
  exact congrArg amaxE (funext fun k => pay4_12 x0 x1 x2 x3 x4 (ix2 _ _))
theorem out4_10_apply (y : S1x2x512.Idx) : (out4_10 x0 x1 x2 x3 x4 y : EReal)
    = amaxE fun k => duE (mulB x0 x2 (y 2) ⟨(y 1 : ℕ) * 128 + k, by idx_bounds y; omega⟩)
        (mulBt x1 x4 (y 2) ⟨(y 1 : ℕ) * 128 + k, by idx_bounds y; omega⟩) := by
  canon_tiles x h
  have hx : x = y := funext fun a => by fin_cases a <;> apply Fin.ext <;> simp <;> omega
  subst hx
  rw [pay4_5, pay4_4]
  refine congrArg amaxE (funext fun k => ?_)
  unfold k4_pay16
  rw [ld4_0, ld4_0, ld4_1, ld4_2]
  exact pay4_13 x0 x1 x2 x4 (ix2 _ _)

end Block

/-- An element of the tokens' product with one of the two weights. -/
def mulA (x : S32768x5120.Idx → EReal) (w : S2x5120x6400.Idx → EReal) (k : Fin 2) (i : Fin 32768) (j : Fin 6400) : EReal :=
  ∑ d : Fin 5120, x (ix2 i d) * w (ix3 k d j)
/-- An element of the gradients' product with the transposed down weight. -/
def mulAt (x : S32768x5120.Idx → EReal) (w : S6400x5120.Idx → EReal) (i : Fin 32768) (j : Fin 6400) : EReal :=
  ∑ d : Fin 5120, x (ix2 i d) * w (ix2 j d)
/-- The hidden activations, … -/
def hA (x : S32768x5120.Idx → EReal) (w : S2x5120x6400.Idx → EReal) (i : Fin 32768) (j : Fin 6400) : EReal :=
  hE (mulA x w 0 i j) (mulA x w 1 i j)
/-- … the gradients of the gate … -/
def dgA (x dy : S32768x5120.Idx → EReal) (w : S2x5120x6400.Idx → EReal) (wd : S6400x5120.Idx → EReal) (i : Fin 32768) (j : Fin 6400) : EReal :=
  dgE (mulA x w 0 i j) (mulA x w 1 i j) (mulAt dy wd i j)
/-- … and of the up projection. -/
def duA (x dy : S32768x5120.Idx → EReal) (w : S2x5120x6400.Idx → EReal) (wd : S6400x5120.Idx → EReal) (i : Fin 32768) (j : Fin 6400) : EReal :=
  duE (mulA x w 0 i j) (mulAt dy wd i j)

theorem index4_0 : ∀ t : Fin grid4.N, win4_0.index t = ![(t : ℕ) / 25, 0] := by decide +kernel
theorem index4_1 : ∀ t : Fin grid4.N, win4_1.index t = ![(t : ℕ) / 25, 0] := by decide +kernel
theorem index4_2 : ∀ t : Fin grid4.N, win4_2.index t = ![0, 0, (t : ℕ) % 25] := by decide +kernel
theorem index4_3 : ∀ t : Fin grid4.N, win4_3.index t = ![1, 0, (t : ℕ) % 25] := by decide +kernel
theorem index4_4 : ∀ t : Fin grid4.N, win4_4.index t = ![(t : ℕ) % 25, 0] := by decide +kernel
theorem index4_5 : ∀ t : Fin grid4.N, win4_5.index t = ![(t : ℕ) % 25, (t : ℕ) / 25] := by decide +kernel
theorem index4_6 : ∀ t : Fin grid4.N, win4_6.index t = ![0, (t : ℕ) / 25, (t : ℕ) % 25] := by decide +kernel
theorem index4_7 : ∀ t : Fin grid4.N, win4_7.index t = ![0, (t : ℕ) / 25, (t : ℕ) % 25] := by decide +kernel
theorem index4_8 : ∀ t : Fin grid4.N, win4_8.index t = ![(t : ℕ) % 25, 0, (t : ℕ) / 25] := by decide +kernel
theorem index4_9 : ∀ t : Fin grid4.N, win4_9.index t = ![(t : ℕ) % 25, 0, (t : ℕ) / 25] := by decide +kernel
theorem index4_10 : ∀ t : Fin grid4.N, win4_10.index t = ![(t : ℕ) % 25, 0, (t : ℕ) / 25] := by decide +kernel

variable (V : (c : Dev nD) → (b : Ref sig .tc) → Buf (Elt Ideal) ((c : Thread nD τ).loc b))

theorem lt4 (t : Fin cfg4.N) : (t : ℕ) < 1600 := by
  have := t.isLt
  have h : cfg4.N = 1600 := N_4
  omega

theorem gate4 (c : Dev nD) (t : Fin cfg4.N) (r : Fin 512) (j : Fin 256) (i : Fin 32768) (f : Fin 6400)
    (hi : (i : ℕ) = (t : ℕ) / 25 * 512 + r) (hf : (f : ℕ) = (t : ℕ) % 25 * 256 + j) :
    mulB (iblk4 V c 0 t) (iblk4 V c 2 t) r j = mulA (V c main_v9_0) (V c main_v5) 0 i f := by
  refine Finset.sum_congr rfl fun d _ => ?_
  congr 1 <;> blk_ext [iblk4, index4_0, index4_2]
theorem up4 (c : Dev nD) (t : Fin cfg4.N) (r : Fin 512) (j : Fin 256) (i : Fin 32768) (f : Fin 6400)
    (hi : (i : ℕ) = (t : ℕ) / 25 * 512 + r) (hf : (f : ℕ) = (t : ℕ) % 25 * 256 + j) :
    mulB (iblk4 V c 0 t) (iblk4 V c 3 t) r j = mulA (V c main_v9_0) (V c main_v5) 1 i f := by
  refine Finset.sum_congr rfl fun d _ => ?_
  congr 1 <;> blk_ext [iblk4, index4_0, index4_3]
theorem down4 (c : Dev nD) (t : Fin cfg4.N) (r : Fin 512) (j : Fin 256) (i : Fin 32768) (f : Fin 6400)
    (hi : (i : ℕ) = (t : ℕ) / 25 * 512 + r) (hf : (f : ℕ) = (t : ℕ) % 25 * 256 + j) :
    mulBt (iblk4 V c 1 t) (iblk4 V c 4 t) r j = mulAt (V c main_v12) (V c main_v6) i f := by
  refine Finset.sum_congr rfl fun d _ => ?_
  congr 1 <;> blk_ext [iblk4, index4_1, index4_4]

theorem arr4_5 (c : Dev nD) : (dat4 V c).arrAt 5 cfg4.N = fun i : S6400x32768.Idx =>
    hA (V c main_v9_0) (V c main_v5) (i 1) (i 0) := by
  refine (dat4 V c).arrAt_eq_of_covers 5 _ (by decide +kernel) fun t hf y => ?_
  blk_simp
  rw [after4_5, out4_5_apply]
  have ht := lt4 t
  have hb := index4_5 t
  unfold hA
  idx_bounds y
  congr 1
  · exact gate4 V c t _ _ _ _ (by blk_simp [index4_5]) (by blk_simp [index4_5])
  · exact up4 V c t _ _ _ _ (by blk_simp [index4_5]) (by blk_simp [index4_5])

theorem arr4_6 (c : Dev nD) : (dat4 V c).arrAt 6 cfg4.N = fun i : S1x32768x6400.Idx =>
    dgA (V c main_v9_0) (V c main_v12) (V c main_v5) (V c main_v6) (i 1) (i 2) := by
  refine (dat4 V c).arrAt_eq_of_covers 6 _ (by decide +kernel) fun t hf y => ?_
  blk_simp
  rw [after4_6, out4_6_apply]
  have ht := lt4 t
  have hb := index4_6 t
  unfold dgA
  idx_bounds y
  congr 1
  · exact gate4 V c t _ _ _ _ (by blk_simp [index4_6]) (by blk_simp [index4_6])
  · exact up4 V c t _ _ _ _ (by blk_simp [index4_6]) (by blk_simp [index4_6])
  · exact down4 V c t _ _ _ _ (by blk_simp [index4_6]) (by blk_simp [index4_6])

theorem arr4_7 (c : Dev nD) : (dat4 V c).arrAt 7 cfg4.N = fun i : S1x32768x6400.Idx =>
    duA (V c main_v9_0) (V c main_v12) (V c main_v5) (V c main_v6) (i 1) (i 2) := by
  refine (dat4 V c).arrAt_eq_of_covers 7 _ (by decide +kernel) fun t hf y => ?_
  blk_simp
  rw [after4_7, out4_7_apply]
  have ht := lt4 t
  have hb := index4_7 t
  unfold duA
  idx_bounds y
  congr 1
  · exact gate4 V c t _ _ _ _ (by blk_simp [index4_7]) (by blk_simp [index4_7])
  · exact down4 V c t _ _ _ _ (by blk_simp [index4_7]) (by blk_simp [index4_7])

theorem arr4_8 (c : Dev nD) : (dat4 V c).arrAt 8 cfg4.N = fun i : S25x2x32768.Idx =>
    amaxE fun k => hA (V c main_v9_0) (V c main_v5) (i 2) ⟨(i 0 : ℕ) * 256 + ((i 1 : ℕ) * 128 + k), by idx_bounds i; omega⟩ := by
  refine (dat4 V c).arrAt_eq_of_covers 8 _ (by decide +kernel) fun t hf y => ?_
  blk_simp
  rw [after4_8, out4_8_apply]
  have ht := lt4 t
  unfold hA
  refine congrArg amaxE (funext fun k => ?_)
  idx_bounds y
  congr 1
  · exact gate4 V c t _ _ _ _ (by blk_simp [index4_8]) (by blk_simp [index4_8])
  · exact up4 V c t _ _ _ _ (by blk_simp [index4_8]) (by blk_simp [index4_8])

theorem arr4_9 (c : Dev nD) : (dat4 V c).arrAt 9 cfg4.N = fun i : S25x2x32768.Idx =>
    amaxE fun k => dgA (V c main_v9_0) (V c main_v12) (V c main_v5) (V c main_v6) (i 2) ⟨(i 0 : ℕ) * 256 + ((i 1 : ℕ) * 128 + k), by idx_bounds i; omega⟩ := by
  refine (dat4 V c).arrAt_eq_of_covers 9 _ (by decide +kernel) fun t hf y => ?_
  blk_simp
  rw [after4_9, out4_9_apply]
  have ht := lt4 t
  unfold dgA
  refine congrArg amaxE (funext fun k => ?_)
  idx_bounds y
  congr 1
  · exact gate4 V c t _ _ _ _ (by blk_simp [index4_9]) (by blk_simp [index4_9])
  · exact up4 V c t _ _ _ _ (by blk_simp [index4_9]) (by blk_simp [index4_9])
  · exact down4 V c t _ _ _ _ (by blk_simp [index4_9]) (by blk_simp [index4_9])

theorem arr4_10 (c : Dev nD) : (dat4 V c).arrAt 10 cfg4.N = fun i : S25x2x32768.Idx =>
    amaxE fun k => duA (V c main_v9_0) (V c main_v12) (V c main_v5) (V c main_v6) (i 2) ⟨(i 0 : ℕ) * 256 + ((i 1 : ℕ) * 128 + k), by idx_bounds i; omega⟩ := by
  refine (dat4 V c).arrAt_eq_of_covers 10 _ (by decide +kernel) fun t hf y => ?_
  blk_simp
  rw [after4_10, out4_10_apply]
  have ht := lt4 t
  unfold duA
  refine congrArg amaxE (funext fun k => ?_)
  idx_bounds y
  congr 1
  · exact gate4 V c t _ _ _ _ (by blk_simp [index4_10]) (by blk_simp [index4_10])
  · exact down4 V c t _ _ _ _ (by blk_simp [index4_10]) (by blk_simp [index4_10])

end Cert.KernelIdeal.Val
-- ==== Proof.Value.Spec.lean ====
/- The problem's arrays as functions of the eight arguments. -/
module

public import proofs.«01_k».proof.Proof.Value.Hidden
public import Idealize.ShloMosaic.Lib.Pipeline.ValueKit
import Idealize.ShloMosaic.Lib.ValueIdx

@[expose] public section

noncomputable section

namespace Cert.KernelIdeal.Val

open Idealize.ShloMosaic Idealize.ShloMosaic.TcCoe Cert.KernelIdeal

/-- The dequantised rows of a (batch, position, column) array of codes: each code times the scale of its row's group of 128 columns. -/
def rowsOf (x : S2x16384x5120.Idx → EReal) (s : S2x16384x40.Idx → EReal) (i : S32768x5120.Idx) : EReal :=
  x (ix3 ⟨(i 0 : ℕ) / 16384, by idx_bounds i; omega⟩ ⟨(i 0 : ℕ) % 16384, by omega⟩ (i 1))
    * s (ix3 ⟨(i 0 : ℕ) / 16384, by idx_bounds i; omega⟩ ⟨(i 0 : ℕ) % 16384, by omega⟩ ⟨(i 1 : ℕ) / 128, by idx_bounds i; omega⟩)

/-- The dequantised gate and up weights, the choice of the two first: each code times its 128 by 128 block's scale. -/
def guOf (w : S5120x2x6400.Idx → EReal) (s : S40x2x50.Idx → EReal) (i : S2x5120x6400.Idx) : EReal :=
  w (ix3 (i 1) (i 0) (i 2)) * s (ix3 ⟨(i 1 : ℕ) / 128, by idx_bounds i; omega⟩ (i 0) ⟨(i 2 : ℕ) / 128, by idx_bounds i; omega⟩)

/-- The dequantised down weights. -/
def downOf (w : S6400x5120.Idx → EReal) (s : S50x40.Idx → EReal) (i : S6400x5120.Idx) : EReal :=
  w i * s (ix2 ⟨(i 0 : ℕ) / 128, by idx_bounds i; omega⟩ ⟨(i 1 : ℕ) / 128, by idx_bounds i; omega⟩)

section Results
variable (x0 : S2x16384x5120.Idx → EReal) (x1 : S2x16384x40.Idx → EReal) (x2 : S2x16384x5120.Idx → EReal) (x3 : S2x16384x40.Idx → EReal)
  (x4 : S5120x2x6400.Idx → EReal) (x5 : S40x2x50.Idx → EReal) (x6 : S6400x5120.Idx → EReal) (x7 : S50x40.Idx → EReal)

/-- The hidden activations. -/
def hS (t : Fin 32768) (f : Fin 6400) : EReal := hA (rowsOf x0 x1) (guOf x4 x5) t f
/-- The gradient of the gate (0) and of the up projection (1). -/
def gS (k : Fin 2) (t : Fin 32768) (f : Fin 6400) : EReal :=
  if k = 0 then dgA (rowsOf x0 x1) (rowsOf x2 x3) (guOf x4 x5) (downOf x6 x7) t f
  else duA (rowsOf x0 x1) (rowsOf x2 x3) (guOf x4 x5) (downOf x6 x7) t f

/-- The tokens' gradient, by token. -/
def dxS (t : Fin 32768) (d : Fin 5120) : EReal :=
  (∑ f : Fin 6400, gS x0 x1 x2 x3 x4 x5 x6 x7 0 t f * guOf x4 x5 (ix3 0 d f))
    + ∑ f : Fin 6400, gS x0 x1 x2 x3 x4 x5 x6 x7 1 t f * guOf x4 x5 (ix3 1 d f)
/-- The tokens' gradient, by batch and position. -/
def out0 (i : S2x16384x5120.Idx) : EReal :=
  dxS x0 x1 x2 x3 x4 x5 x6 x7 ⟨(i 0 : ℕ) * 16384 + (i 1 : ℕ), by idx_bounds i; omega⟩ (i 2)
/-- The gate and up weights' gradient. -/
def out1 (i : S5120x2x6400.Idx) : EReal :=
  ∑ t : Fin 32768, rowsOf x0 x1 (ix2 t (i 0)) * gS x0 x1 x2 x3 x4 x5 x6 x7 (i 1) t (i 2)
/-- The down weights' gradient. -/
def out2 (i : S6400x5120.Idx) : EReal :=
  ∑ t : Fin 32768, hS x0 x1 x4 x5 t (i 0) * rowsOf x2 x3 (ix2 t (i 1))
/-- The largest magnitude of each group of 128 hidden activations. -/
def out3 (i : S2x16384x50.Idx) : EReal :=
  amaxE fun k => hS x0 x1 x4 x5 ⟨(i 0 : ℕ) * 16384 + (i 1 : ℕ), by idx_bounds i; omega⟩ ⟨(i 2 : ℕ) * 128 + k, by idx_bounds i; omega⟩
/-- The largest magnitude of each group of 128 of the two gradients. -/
def out4 (i : S2x16384x2x50.Idx) : EReal :=
  amaxE fun k => gS x0 x1 x2 x3 x4 x5 x6 x7 (i 2) ⟨(i 0 : ℕ) * 16384 + (i 1 : ℕ), by idx_bounds i; omega⟩ ⟨(i 3 : ℕ) * 128 + k, by idx_bounds i; omega⟩
end Results

end Cert.KernelIdeal.Val

end
-- ==== Proof.Value.Tiles.lean ====
/- DEQUANTISED TILES: what one 128-wide tile of a dequantised block holds, for the tile chains of the kernels' bodies. -/
module

public import proofs.«01_k».proof.Proof.Gen.KernelIdeal
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

/-- Rows of codes times the scale of the row and of the group of 128 columns; the scales are laid out
    (batch, group, position). -/
def deqRows (x : S32768x5120.Idx → EReal) (s : S2x40x16384.Idx → EReal) (i : S32768x5120.Idx) : EReal :=
  x i * s (ix3 ⟨(i 0 : ℕ) / 16384, by idx_bounds i; omega⟩ ⟨(i 1 : ℕ) / 128, by idx_bounds i; omega⟩ ⟨(i 0 : ℕ) % 16384, by omega⟩)

/-- One tile of a dequantised block of rows: the codes times the scale of the tile's column group. -/
theorem row_tile {e : FTy} (o : Fin 2 → ℕ) (x0 : FVec Ideal S1x40x512 .f32) (v7 : FVec Ideal S512x128 e)
    (x : S512x128.Idx) (v : EReal) (k : Fin 40) (i : Fin 512)
    (hi : (i : ℕ) = o 0 + x 0) (hk : (k : ℕ) = o 1)
    (hv : (v7 x : EReal) * x0 (ix3 0 k i) = v)
    (h0 : S1x40x512.ShapeCasts S40x512) (ht : S40x512.Transposes [1, 0] S512x40)
    (h1 : S512x40.Slices o S512x1) (h2 : S512x1.ShapeCasts S512x1) (h3 : S512x1.Broadcasts S512x128)
    (h4 : FTy.bits .bf16 < FTy.bits .f32) (h5 : S512x128.ShapeCasts S512x128) (h6 : FTy.bits e < FTy.bits .bf16) :
    (mulf (extf .bf16 (shapeCast S512x128 v7 h5) h6)
      (truncf .bf16 (broadcastTo S512x128 (shapeCast S512x1 (extractStridedSlice S512x1 o
        (transpose S512x40 [1, 0] (shapeCast S40x512 x0 h0) ht) h1) h2) h3) h4) x : EReal) = v := by
  rw [shapeCast_self, shapeCast_self, ValueIdx.mulf_apply, ValueIdx.extf_apply, ValueIdx.truncf_apply]
  rw [broadcastTo_apply _ h3 x (ix2 (x 0) 0) (fun a => by fin_cases a <;> rfl)]
  rw [extractStridedSlice_apply o _ h1 _ (ix2 i k) (fun a => by fin_cases a <;> simp [hi, hk])]
  rw [← hv]
  congr 1
  pointwise

/-- The same tile, stored transposed. -/
theorem row_tile_t {e : FTy} (o : Fin 2 → ℕ) (x0 : FVec Ideal S1x40x512 .f32) (v7 : FVec Ideal S512x128 e)
    (x : S128x512.Idx) (v : EReal) (k : Fin 40) (i : Fin 512)
    (hi : (i : ℕ) = o 0 + x 1) (hk : (k : ℕ) = o 1)
    (hv : (v7 (ix2 (x 1) (x 0)) : EReal) * x0 (ix3 0 k i) = v)
    (h0 : S1x40x512.ShapeCasts S40x512) (ht : S40x512.Transposes [1, 0] S512x40)
    (h1 : S512x40.Slices o S512x1) (h2 : S512x1.ShapeCasts S512x1) (h3 : S512x1.Broadcasts S512x128)
    (h4 : FTy.bits .bf16 < FTy.bits .f32) (h5 : S512x128.ShapeCasts S512x128) (h6 : FTy.bits e < FTy.bits .bf16)
    (h7 : S512x128.Transposes [1, 0] S128x512) :
    (transpose S128x512 [1, 0] (mulf (extf .bf16 (shapeCast S512x128 v7 h5) h6)
      (truncf .bf16 (broadcastTo S512x128 (shapeCast S512x1 (extractStridedSlice S512x1 o
        (transpose S512x40 [1, 0] (shapeCast S40x512 x0 h0) ht) h1) h2) h3) h4)) h7 x : EReal) = v := by
  refine Eq.trans ?_ (row_tile o x0 v7 (ix2 (x 1) (x 0)) v k i hi hk hv h0 ht h1 h2 h3 h4 h5 h6)
  pointwise

/-- One tile of a dequantised block of weights: the codes times the tile's scale. -/
theorem block_tile {e : FTy} (v7 : FVec Ideal S128x128 e) (s : Elt Ideal .f32) (x : S128x128.Idx) (v : EReal)
    (hv : (v7 x : EReal) * (s : EReal) = v) (h4 : FTy.bits .bf16 < FTy.bits .f32) (h5 : S128x128.ShapeCasts S128x128)
    (h6 : FTy.bits e < FTy.bits .bf16) :
    (mulf (extf .bf16 (shapeCast S128x128 v7 h5) h6) (broadcast S128x128 (Scalar.truncf (F := Ideal) .bf16 h4 s)) x : EReal) = v := by
  rw [shapeCast_self]
  exact hv

/-- The same tile, its codes widened as they are loaded. -/
theorem block_tile' {e : FTy} (v7 : FVec Ideal S128x128 e) (s : Elt Ideal .f32) (x : S128x128.Idx) (v : EReal)
    (hv : (v7 x : EReal) * (s : EReal) = v) (h4 : FTy.bits .bf16 < FTy.bits .f32) (h6 : FTy.bits e < FTy.bits .bf16) :
    (mulf (extf .bf16 v7 h6) (broadcast S128x128 (Scalar.truncf (F := Ideal) .bf16 h4 s)) x : EReal) = v :=
  hv

/-- A load of one element, at the place its offsets name. -/
theorem ld_one {a b : ℕ} (x0 : (⟨2, ![a, b]⟩ : Shape).Idx → EReal) (off : Fin 2 → ℕ) [h : ClosedOff off] (i : Fin a) (j : Fin b)
    (inb : ∀ k, off k + (![1, 1] : Fin 2 → ℕ) k ≤ (⟨2, ![a, b]⟩ : Shape).size k)
    (z : (⟨2, ![1, 1]⟩ : Shape).Idx) (h0 : h.form 0 = i) (h1 : h.form 1 = j) :
    View.ld (Val := Elt Ideal) (e' := .f32) x0 (Rect.unit (s := ⟨2, ![a, b]⟩) off ![1, 1] inb) z = x0 (ix2 i j) := by
  have e := h.eq
  refine congrArg x0 (funext fun k => ?_)
  fin_cases k
  · apply Fin.ext
    have := (z 0).isLt
    simp at this
    simp [congrFun e 0, h0, this]
  · apply Fin.ext
    have := (z 1).isLt
    simp at this
    simp [congrFun e 1, h1, this]

/-- An element of the product of two arrays. -/
def mulNN {A N B : ℕ} (a : (⟨2, ![A, N]⟩ : Shape).Idx → EReal) (b : (⟨2, ![N, B]⟩ : Shape).Idx → EReal)
    (i : (⟨2, ![A, B]⟩ : Shape).Idx) : EReal :=
  ∑ n : Fin N, a (ix2 (i 0) n) * b (ix2 n (i 1))

end Cert.KernelIdeal.Val
-- ==== Proof.Value.Block0.lean ====
/- REGION 0: the array of dequantised gate and up weights it leaves. -/
module

public import proofs.«01_k».proof.Proof.Frame.Region0
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

variable (V : (c : Dev nD) → (b : Ref sig .tc) → Buf (Elt Ideal) ((c : Thread nD τ).loc b))

set_option backward.isDefEq.respectTransparency false in
theorem out0_apply (c : Dev nD) (i : grid0.Coords) (a1 : Memref sig .tc .smem S80x50 .f32) (h1 : a1.IsWhole)
    (a2 : Memref sig .tc .vmem S128x6400 .fp8e4m3) (h2 : a2.IsWhole) (a3 : Memref sig .tc .vmem S128x6400 .bf16) (h3 : a3.IsWhole)
    (x0 : Vec Ideal S80x50 .f32) (x1 : Vec Ideal S128x6400 .fp8e4m3) (y : S128x6400.Idx) :
    (out0_A_2 c i a1 h1 a2 h2 a3 h3 x0 x1 y : EReal) = (x1 y : EReal)
      * x0 (ix2 ⟨(i 0 : ℕ), by idx_bounds i; omega⟩ ⟨(y 1 : ℕ) / 128, by idx_bounds y; omega⟩) := by
  frame_out
  canon_tiles x h
  all_goals
    open_payloads
    first | refine block_tile _ _ x _ ?_ .. | refine block_tile' _ _ x _ ?_ ..
    refine congrArg₂ (fun a b : EReal => a * b) ?_ ?_
    · refine congrArg x1 (funext fun a => ?_)
      fin_cases a <;> apply Fin.ext <;> simp <;> omega
    · refine ld_one (a := 80) (b := 50) x0 _ _ _ _ _ ?_ ?_
      · rfl
      · show _ = (y 1 : ℕ) / 128
        simp [ClosedOff.form]; omega

theorem index0_0 : ∀ t : Fin grid0.N, win0_0.index t = ![0, 0] := by decide +kernel
theorem index0_1 : ∀ t : Fin grid0.N, win0_1.index t = ![(t : ℕ), 0] := by decide +kernel
theorem index0_2 : ∀ t : Fin grid0.N, win0_2.index t = ![(t : ℕ), 0] := by decide +kernel

/-- Codes of the two weights one above the other, times the scale of the 128 x 128 block. -/
def deqGU (x : S10240x6400.Idx → EReal) (s : S80x50.Idx → EReal) (i : S10240x6400.Idx) : EReal :=
  x i * s (ix2 ⟨(i 0 : ℕ) / 128, by idx_bounds i; omega⟩ ⟨(i 1 : ℕ) / 128, by idx_bounds i; omega⟩)

theorem arr0 (c : Dev nD) : (dat0 V c).arrAt 2 cfg0.N = deqGU (V c main_v1) (V c main_v3) := by
  refine (dat0 V c).arrAt_eq_of_covers 2 _ (by decide +kernel) fun t hf y => ?_
  blk_simp
  rw [after0_2]
  unfold outsAt0
  rw [out0_apply]
  have hN : cfg0.N = 80 := N_0
  have ht := t.isLt
  have hc : (grid0.coords t 0 : ℕ) = t := by
    rw [Pipeline.Grid.coords_val t 0 (S := 1) (B := 80) (by decide) rfl]
    have hg : cfg0.grid.N = 80 := N_0
    omega
  unfold deqGU
  congr 1 <;> blk_ext [iblk0, index0_0, index0_1, index0_2]

end Cert.KernelIdeal.Val
-- ==== Proof.Value.Block1.lean ====
/- REGION 1: the array of dequantised down weights it leaves. -/
module

public import proofs.«01_k».proof.Proof.Frame.Region1
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

variable (V : (c : Dev nD) → (b : Ref sig .tc) → Buf (Elt Ideal) ((c : Thread nD τ).loc b))

set_option backward.isDefEq.respectTransparency false in
theorem out1_apply (c : Dev nD) (i : grid1.Coords) (a1 : Memref sig .tc .smem S50x40 .f32) (h1 : a1.IsWhole)
    (a2 : Memref sig .tc .vmem S128x5120 .fp8e4m3) (h2 : a2.IsWhole) (a3 : Memref sig .tc .vmem S128x5120 .bf16) (h3 : a3.IsWhole)
    (x0 : Vec Ideal S50x40 .f32) (x1 : Vec Ideal S128x5120 .fp8e4m3) (y : S128x5120.Idx) :
    (out1_A_2 c i a1 h1 a2 h2 a3 h3 x0 x1 y : EReal) = (x1 y : EReal)
      * x0 (ix2 ⟨(i 0 : ℕ), by idx_bounds i; omega⟩ ⟨(y 1 : ℕ) / 128, by idx_bounds y; omega⟩) := by
  frame_out
  canon_tiles x h
  all_goals
    open_payloads
    first | refine block_tile _ _ x _ ?_ .. | refine block_tile' _ _ x _ ?_ ..
    refine congrArg₂ (fun a b : EReal => a * b) ?_ ?_
    · refine congrArg x1 (funext fun a => ?_)
      fin_cases a <;> apply Fin.ext <;> simp <;> omega
    · refine ld_one (a := 50) (b := 40) x0 _ _ _ _ _ ?_ ?_
      · rfl
      · show _ = (y 1 : ℕ) / 128
        simp [ClosedOff.form]; omega

theorem index1_0 : ∀ t : Fin grid1.N, win1_0.index t = ![0, 0] := by decide +kernel
theorem index1_1 : ∀ t : Fin grid1.N, win1_1.index t = ![(t : ℕ), 0] := by decide +kernel
theorem index1_2 : ∀ t : Fin grid1.N, win1_2.index t = ![(t : ℕ), 0] := by decide +kernel

/-- Codes of the down weight, times the scale of the 128 x 128 block. -/
def deqDown (x : S6400x5120.Idx → EReal) (s : S50x40.Idx → EReal) (i : S6400x5120.Idx) : EReal :=
  x i * s (ix2 ⟨(i 0 : ℕ) / 128, by idx_bounds i; omega⟩ ⟨(i 1 : ℕ) / 128, by idx_bounds i; omega⟩)

theorem arr1 (c : Dev nD) : (dat1 V c).arrAt 2 cfg1.N = deqDown (V c main_arg6) (V c main_arg7) := by
  refine (dat1 V c).arrAt_eq_of_covers 2 _ (by decide +kernel) fun t hf y => ?_
  blk_simp
  rw [after1_2]
  unfold outsAt1
  rw [out1_apply]
  have hN : cfg1.N = 50 := N_1
  have ht := t.isLt
  have hc : (grid1.coords t 0 : ℕ) = t := by
    rw [Pipeline.Grid.coords_val t 0 (S := 1) (B := 50) (by decide) rfl]
    have hg : cfg1.grid.N = 50 := N_1
    omega
  unfold deqDown
  congr 1 <;> blk_ext [iblk1, index1_0, index1_1, index1_2]

end Cert.KernelIdeal.Val
-- ==== Proof.Value.Rows2.lean ====
/- REGION 2: the arrays of dequantised token rows it leaves, straight and transposed. -/
module

public import proofs.«01_k».proof.Proof.Frame.Region2
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

theorem out2_2_apply (x0 : Vec Ideal S1x40x512 .f32) (x1 : Vec Ideal S512x5120 .fp8e4m3) (y : S512x5120.Idx) :
    (out2_2 x0 x1 y : EReal) = (x1 y : EReal) * x0 (ix3 0 ⟨(y 1 : ℕ) / 128, by have := (y 1).isLt; simp at this; omega⟩ (y 0)) := by
  canon_tiles x h
  all_goals
    open_payloads
    refine row_tile _ x0 _ x _ ⟨(y 1 : ℕ) / 128, by have := (y 1).isLt; simp at this; omega⟩ (y 0) ?_ ?_ ?_ ..
    · simp; omega
    · simp; omega
    · refine congrArg (fun z => (x1 z : EReal) * _) (funext fun a => ?_)
      fin_cases a <;> apply Fin.ext <;> simp <;> omega

theorem out2_3_apply (x0 : Vec Ideal S1x40x512 .f32) (x1 : Vec Ideal S512x5120 .fp8e4m3) (y : S5120x512.Idx) :
    (out2_3 x0 x1 y : EReal) = (x1 (ix2 (y 1) (y 0)) : EReal) * x0 (ix3 0 ⟨(y 0 : ℕ) / 128, by have := (y 0).isLt; simp at this; omega⟩ (y 1)) := by
  canon_tiles x h
  all_goals
    open_payloads
    refine row_tile_t _ x0 _ x _ ⟨(y 0 : ℕ) / 128, by have := (y 0).isLt; simp at this; omega⟩ (y 1) ?_ ?_ ?_ ..
    · simp; omega
    · simp; omega
    · refine congrArg (fun z => (x1 z : EReal) * _) (funext fun a => ?_)
      fin_cases a <;> apply Fin.ext <;> simp <;> omega

theorem index2_0 : ∀ t : Fin grid2.N, win2_0.index t = ![(t : ℕ) / 32, 0, (t : ℕ) % 32] := by decide +kernel
theorem index2_1 : ∀ t : Fin grid2.N, win2_1.index t = ![(t : ℕ), 0] := by decide +kernel
theorem index2_2 : ∀ t : Fin grid2.N, win2_2.index t = ![(t : ℕ), 0] := by decide +kernel
theorem index2_3 : ∀ t : Fin grid2.N, win2_3.index t = ![0, (t : ℕ)] := by decide +kernel

variable (V : (c : Dev nD) → (b : Ref sig .tc) → Buf (Elt Ideal) ((c : Thread nD τ).loc b))

theorem arr2 (c : Dev nD) : (dat2 V c).arrAt 2 cfg2.N = deqRows (V c main_v7) (V c main_v8) := by
  refine (dat2 V c).arrAt_eq_of_covers 2 _ (by decide +kernel) fun t hf y => ?_
  blk_simp
  rw [after2_2, out2_2_apply]
  have hN : cfg2.N = 64 := N_2
  have ht := t.isLt
  unfold deqRows
  congr 1 <;> blk_ext [iblk2, index2_0, index2_1, index2_2]

theorem arr2t (c : Dev nD) : (dat2 V c).arrAt 3 cfg2.N
    = fun i : S5120x32768.Idx => deqRows (V c main_v7) (V c main_v8) (ix2 (i 1) (i 0)) := by
  refine (dat2 V c).arrAt_eq_of_covers 3 _ (by decide +kernel) fun t hf y => ?_
  blk_simp
  rw [after2_3, out2_3_apply]
  have hN : cfg2.N = 64 := N_2
  have ht := t.isLt
  unfold deqRows
  congr 1 <;> blk_ext [iblk2, index2_0, index2_1, index2_3]

end Cert.KernelIdeal.Val
-- ==== Proof.Value.Rows3.lean ====
/- REGION 3: the array of dequantised gradient rows it leaves. -/
module

public import proofs.«01_k».proof.Proof.Frame.Region3
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

theorem out3_2_apply (x0 : Vec Ideal S1x40x512 .f32) (x1 : Vec Ideal S512x5120 .fp8e5m2) (y : S512x5120.Idx) :
    (out3_2 x0 x1 y : EReal) = (x1 y : EReal) * x0 (ix3 0 ⟨(y 1 : ℕ) / 128, by have := (y 1).isLt; simp at this; omega⟩ (y 0)) := by
  canon_tiles x h
  all_goals
    open_payloads
    refine row_tile _ x0 _ x _ ⟨(y 1 : ℕ) / 128, by have := (y 1).isLt; simp at this; omega⟩ (y 0) ?_ ?_ ?_ ..
    · simp; omega
    · simp; omega
    · refine congrArg (fun z => (x1 z : EReal) * _) (funext fun a => ?_)
      fin_cases a <;> apply Fin.ext <;> simp <;> omega

theorem index3_0 : ∀ t : Fin grid3.N, win3_0.index t = ![(t : ℕ) / 32, 0, (t : ℕ) % 32] := by decide +kernel
theorem index3_1 : ∀ t : Fin grid3.N, win3_1.index t = ![(t : ℕ), 0] := by decide +kernel
theorem index3_2 : ∀ t : Fin grid3.N, win3_2.index t = ![(t : ℕ), 0] := by decide +kernel

variable (V : (c : Dev nD) → (b : Ref sig .tc) → Buf (Elt Ideal) ((c : Thread nD τ).loc b))

theorem arr3 (c : Dev nD) : (dat3 V c).arrAt 2 cfg3.N = deqRows (V c main_v10) (V c main_v11) := by
  refine (dat3 V c).arrAt_eq_of_covers 2 _ (by decide +kernel) fun t hf y => ?_
  blk_simp
  rw [after3_2, out3_2_apply]
  have hN : cfg3.N = 64 := N_3
  have ht := t.isLt
  unfold deqRows
  congr 1 <;> blk_ext [iblk3, index3_0, index3_1, index3_2]

end Cert.KernelIdeal.Val
-- ==== Proof.Value.Fold.lean ====
/- What the program's buffers hold between its regions, as functions of the arguments. -/
module

public import proofs.«01_k».proof.Proof.Frame.Fold0
public import proofs.«01_k».proof.Proof.Value.Spec
public import proofs.«01_k».proof.Proof.Value.Block0
public import proofs.«01_k».proof.Proof.Value.Block1
public import proofs.«01_k».proof.Proof.Value.Rows2
public import proofs.«01_k».proof.Proof.Value.Rows3
public import Idealize.ShloMosaic.Lib.StableHlo.RunRead
import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

/-! ## The host's layout changes -/

theorem gu_layout (w : Vec Ideal S5120x2x6400 .fp8e4m3) (s : Vec Ideal S40x2x50 .f32) (v : Vec Ideal S10240x6400 .bf16)
    (hv : v = deqGU (shapeCast S10240x6400 (transpose S2x5120x6400 [1, 0, 2] w transposes_S5120x2x6400_S2x5120x6400_1_0_2) shapeCasts_S2x5120x6400_S10240x6400)
      (shapeCast S80x50 (transpose S2x40x50 [1, 0, 2] s transposes_S40x2x50_S2x40x50_1_0_2) shapeCasts_S2x40x50_S80x50)) :
    shapeCast S2x5120x6400 v shapeCasts_S10240x6400_S2x5120x6400 = guOf w s := by
  funext i
  subst hv
  unfold guOf
  pointwise
  unfold deqGU
  pointwise
  refine congrArg (fun z => w (ix3 (i 1) (i 0) (i 2)) * s (ix3 z (i 0) _)) (Fin.ext ?_)
  show (↑(i 0) * 5120 + ↑(i 1)) / 128 % 40 = (↑(i 1) : ℕ) / 128
  idx_bounds i
  omega

theorem rows_layout {e : FTy} (x : FVec Ideal S2x16384x5120 e) (s : Vec Ideal S2x16384x40 .f32) :
    deqRows (shapeCast S32768x5120 x shapeCasts_S2x16384x5120_S32768x5120) (transpose S2x40x16384 [0, 2, 1] s transposes_S2x16384x40_S2x40x16384_0_2_1)
      = rowsOf x s := by
  funext i
  unfold deqRows rowsOf
  pointwise

variable (m : (ℓ : Loc nD τ sig) → Buf (Elt Ideal) ℓ) (ρ : Dev nD → PrngReg) (c : Dev nD)

/-- The tokens. -/
abbrev aX : S32768x5120.Idx → EReal := rowsOf (m ((c : Thread nD τ).loc main_arg0)) (m ((c : Thread nD τ).loc main_arg1))
/-- The output's gradient. -/
abbrev aY : S32768x5120.Idx → EReal := rowsOf (m ((c : Thread nD τ).loc main_arg2)) (m ((c : Thread nD τ).loc main_arg3))
/-- The gate and up weights. -/
abbrev aGU : S2x5120x6400.Idx → EReal := guOf (m ((c : Thread nD τ).loc main_arg4)) (m ((c : Thread nD τ).loc main_arg5))
/-- The down weights. -/
abbrev aD : S6400x5120.Idx → EReal := downOf (m ((c : Thread nD τ).loc main_arg6)) (m ((c : Thread nD τ).loc main_arg7))

theorem V1_v1 : V1 m ρ c main_v1 = shapeCast S10240x6400 (transpose S2x5120x6400 [1, 0, 2] (m ((c : Thread nD τ).loc main_arg4)) transposes_S5120x2x6400_S2x5120x6400_1_0_2) shapeCasts_S2x5120x6400_S10240x6400 := by
  after_reads_simp
  rfl
theorem V1_v3 : V1 m ρ c main_v3 = shapeCast S80x50 (transpose S2x40x50 [1, 0, 2] (m ((c : Thread nD τ).loc main_arg5)) transposes_S40x2x50_S2x40x50_1_0_2) shapeCasts_S2x40x50_S80x50 := by
  after_reads_simp
  rfl
theorem V2_v4 : V2 m ρ c main_v4 = deqGU (V1 m ρ c main_v1) (V1 m ρ c main_v3) := (W2_arr m ρ c 2).trans (arr0 (V1 m ρ) c)
theorem V3_v5' : V3 m ρ c main_v5 = shapeCast S2x5120x6400 (V2 m ρ c main_v4) shapeCasts_S10240x6400_S2x5120x6400 := by
  after_reads_simp
  rfl
theorem V3_v5 : V3 m ρ c main_v5 = aGU m c := by
  rw [V3_v5', V2_v4, V1_v1, V1_v3]
  exact gu_layout _ _ _ rfl
theorem V4_v6 : V4 m ρ c main_v6 = aD m c := by
  refine (W4_arr m ρ c 2).trans ((arr1 (V3 m ρ) c).trans ?_)
  rw [show V3 m ρ c main_arg6 = m ((c : Thread nD τ).loc main_arg6) from W3_args m ρ c main_arg6 (by decide),
    show V3 m ρ c main_arg7 = m ((c : Thread nD τ).loc main_arg7) from W3_args m ρ c main_arg7 (by decide)]
  rfl
theorem V5_v7 : V5 m ρ c main_v7 = shapeCast S32768x5120 (m ((c : Thread nD τ).loc main_arg0)) shapeCasts_S2x16384x5120_S32768x5120 := by
  after_reads_simp
  rw [W4_args m ρ c main_arg0 (by decide)]
  rfl
theorem V5_v8 : V5 m ρ c main_v8 = transpose S2x40x16384 [0, 2, 1] (m ((c : Thread nD τ).loc main_arg1)) transposes_S2x16384x40_S2x40x16384_0_2_1 := by
  after_reads_simp
  rw [W4_args m ρ c main_arg1 (by decide)]
theorem V6_v9_0 : V6 m ρ c main_v9_0 = aX m c := by
  refine (W6_arr m ρ c 2).trans ((arr2 (V5 m ρ) c).trans ?_)
  rw [V5_v7, V5_v8]
  exact rows_layout (e := .fp8e4m3) _ _
theorem V6_v9_1 : V6 m ρ c main_v9_1 = fun i : S5120x32768.Idx => aX m c (ix2 (i 1) (i 0)) := by
  refine (W6_arr m ρ c 3).trans ((arr2t (V5 m ρ) c).trans ?_)
  rw [V5_v7, V5_v8]
  exact funext fun i => congrFun (rows_layout (e := .fp8e4m3) _ _) _
theorem V7_v10 : V7 m ρ c main_v10 = shapeCast S32768x5120 (m ((c : Thread nD τ).loc main_arg2)) shapeCasts_S2x16384x5120_S32768x5120 := by
  after_reads_simp
  rw [W6_args m ρ c main_arg2 (by decide)]
  rfl
theorem V7_v11 : V7 m ρ c main_v11 = transpose S2x40x16384 [0, 2, 1] (m ((c : Thread nD τ).loc main_arg3)) transposes_S2x16384x40_S2x40x16384_0_2_1 := by
  after_reads_simp
  rw [W6_args m ρ c main_arg3 (by decide)]
theorem V8_v12 : V8 m ρ c main_v12 = aY m c := by
  refine (W8_arr m ρ c 2).trans ((arr3 (V7 m ρ) c).trans ?_)
  rw [V7_v10, V7_v11]
  exact rows_layout (e := .fp8e5m2) _ _
theorem V8_v5 : V8 m ρ c main_v5 = aGU m c :=
  (W8_of m ρ c main_v5 (by decide)).trans ((W7_of m ρ c main_v5 (by decide)).trans ((W6_of m ρ c main_v5 (by decide)).trans
    ((W5_of m ρ c main_v5 (by decide)).trans ((W4_of m ρ c main_v5 (by decide)).trans (V3_v5 m ρ c)))))
theorem V8_v6 : V8 m ρ c main_v6 = aD m c :=
  (W8_of m ρ c main_v6 (by decide)).trans ((W7_of m ρ c main_v6 (by decide)).trans ((W6_of m ρ c main_v6 (by decide)).trans
    ((W5_of m ρ c main_v6 (by decide)).trans (V4_v6 m ρ c))))
theorem V8_v9_0 : V8 m ρ c main_v9_0 = aX m c :=
  (W8_of m ρ c main_v9_0 (by decide)).trans ((W7_of m ρ c main_v9_0 (by decide)).trans (V6_v9_0 m ρ c))
theorem V9_v13_0 : V9 m ρ c main_v13_0 = fun i : S6400x32768.Idx => hA (aX m c) (aGU m c) (i 1) (i 0) := by
  refine (W9_arr m ρ c 5).trans ((arr4_5 (V8 m ρ) c).trans ?_)
  rw [V8_v9_0, V8_v5]
theorem V9_v13_1 : V9 m ρ c main_v13_1 = fun i : S1x32768x6400.Idx => dgA (aX m c) (aY m c) (aGU m c) (aD m c) (i 1) (i 2) := by
  refine (W9_arr m ρ c 6).trans ((arr4_6 (V8 m ρ) c).trans ?_)
  rw [V8_v9_0, V8_v12, V8_v5, V8_v6]
theorem V9_v13_2 : V9 m ρ c main_v13_2 = fun i : S1x32768x6400.Idx => duA (aX m c) (aY m c) (aGU m c) (aD m c) (i 1) (i 2) := by
  refine (W9_arr m ρ c 7).trans ((arr4_7 (V8 m ρ) c).trans ?_)
  rw [V8_v9_0, V8_v12, V8_v5, V8_v6]
theorem V9_v13_3 : V9 m ρ c main_v13_3 = fun i : S25x2x32768.Idx =>
    amaxE fun k => hA (aX m c) (aGU m c) (i 2) ⟨(i 0 : ℕ) * 256 + ((i 1 : ℕ) * 128 + k), by idx_bounds i; omega⟩ := by
  refine (W9_arr m ρ c 8).trans ((arr4_8 (V8 m ρ) c).trans ?_)
  rw [V8_v9_0, V8_v5]
theorem V9_v13_4 : V9 m ρ c main_v13_4 = fun i : S25x2x32768.Idx =>
    amaxE fun k => dgA (aX m c) (aY m c) (aGU m c) (aD m c) (i 2) ⟨(i 0 : ℕ) * 256 + ((i 1 : ℕ) * 128 + k), by idx_bounds i; omega⟩ := by
  refine (W9_arr m ρ c 9).trans ((arr4_9 (V8 m ρ) c).trans ?_)
  rw [V8_v9_0, V8_v12, V8_v5, V8_v6]
theorem V9_v13_5 : V9 m ρ c main_v13_5 = fun i : S25x2x32768.Idx =>
    amaxE fun k => duA (aX m c) (aY m c) (aGU m c) (aD m c) (i 2) ⟨(i 0 : ℕ) * 256 + ((i 1 : ℕ) * 128 + k), by idx_bounds i; omega⟩ := by
  refine (W9_arr m ρ c 10).trans ((arr4_10 (V8 m ρ) c).trans ?_)
  rw [V8_v9_0, V8_v12, V8_v5, V8_v6]

end Cert.KernelIdeal.Val

end
-- ==== Proof.Value.Acc5.lean ====
/- REGION 5: the gate weight's gradient. -/
module

public import proofs.«01_k».proof.Proof.Frame.Region5
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

theorem pay5_2 (v3 : Vec Ideal S2560x1280 .f32) (v5 : Vec Ideal S2560x1024 .bf16) (v7 : Vec Ideal S1024x1280 .bf16) (j : S2560x1280.Idx) :
    (k5_pay2 v3 v5 v7 j : EReal) = v3 j + mulNN (A := 2560) (N := 1024) (B := 1280) v5 v7 j := by
  unfold k5_pay2 mulNN
  pointwise

theorem pay5_1 (j : S2560x1280.Idx) : (k5_pay1 (F := Ideal) j : EReal) = 0 := by
  unfold k5_pay1
  pointwise

theorem index5_0 : ∀ t : Fin grid5.N, win5_0.index t = ![(t : ℕ) / 160, (t : ℕ) % 32] := by decide +kernel
theorem index5_1 : ∀ t : Fin grid5.N, win5_1.index t = ![(t : ℕ) % 32, (t : ℕ) / 32 % 5] := by decide +kernel
theorem index5_2 : ∀ t : Fin grid5.N, win5_2.index t = ![(t : ℕ) / 160, (t : ℕ) / 32 % 5] := by decide +kernel

variable (V : (c : Dev nD) → (b : Ref sig .tc) → Buf (Elt Ideal) ((c : Thread nD τ).loc b))

theorem arr5 (c : Dev nD) : (dat5 V c).arrAt 2 cfg5.N = mulNN (A := 5120) (N := 32768) (B := 6400) (V c main_v9_1) (V c main_v14) := by
  refine (dat5 V c).arrAt_eq_of_covers 2 _ (by decide +kernel) fun t hf y => ?_
  blk_simp
  rw [after5_2, Pipeline.eq_sum_fin_of_reset_step_apply_of_flush (fun n h => outsAt5 V c n h) 32 (fun _ => (0 : EReal)) _
    (fun t h j => by rw [outsAt5_A V c t h]; frame_out; rw [pay5_2, pay5_1])
    (fun t h j => by rw [outsAt5_B V c t h]; frame_out; rw [pay5_2]) t ((flush5_2 t).mp hf) y, zero_add]
  have hN : cfg5.N = 320 := N_5
  have ht := t.isLt
  unfold mulNN
  refine Fin.sum_mul_add_congr fun s k hl => ?_
  congr 1 <;> blk_ext [iblk5, index5_0, index5_1, index5_2]

end Cert.KernelIdeal.Val
-- ==== Proof.Value.Acc6.lean ====
/- REGION 6: the up weight's gradient. -/
module

public import proofs.«01_k».proof.Proof.Frame.Region6
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

theorem pay6_2 (v3 : Vec Ideal S2560x1280 .f32) (v5 : Vec Ideal S2560x1024 .bf16) (v7 : Vec Ideal S1024x1280 .bf16) (j : S2560x1280.Idx) :
    (k6_pay2 v3 v5 v7 j : EReal) = v3 j + mulNN (A := 2560) (N := 1024) (B := 1280) v5 v7 j := by
  unfold k6_pay2 mulNN
  pointwise

theorem pay6_1 (j : S2560x1280.Idx) : (k6_pay1 (F := Ideal) j : EReal) = 0 := by
  unfold k6_pay1
  pointwise

theorem index6_0 : ∀ t : Fin grid6.N, win6_0.index t = ![(t : ℕ) / 160, (t : ℕ) % 32] := by decide +kernel
theorem index6_1 : ∀ t : Fin grid6.N, win6_1.index t = ![(t : ℕ) % 32, (t : ℕ) / 32 % 5] := by decide +kernel
theorem index6_2 : ∀ t : Fin grid6.N, win6_2.index t = ![(t : ℕ) / 160, (t : ℕ) / 32 % 5] := by decide +kernel

variable (V : (c : Dev nD) → (b : Ref sig .tc) → Buf (Elt Ideal) ((c : Thread nD τ).loc b))

theorem arr6 (c : Dev nD) : (dat6 V c).arrAt 2 cfg6.N = mulNN (A := 5120) (N := 32768) (B := 6400) (V c main_v9_1) (V c main_v16) := by
  refine (dat6 V c).arrAt_eq_of_covers 2 _ (by decide +kernel) fun t hf y => ?_
  blk_simp
  rw [after6_2, Pipeline.eq_sum_fin_of_reset_step_apply_of_flush (fun n h => outsAt6 V c n h) 32 (fun _ => (0 : EReal)) _
    (fun t h j => by rw [outsAt6_A V c t h]; frame_out; rw [pay6_2, pay6_1])
    (fun t h j => by rw [outsAt6_B V c t h]; frame_out; rw [pay6_2]) t ((flush6_2 t).mp hf) y, zero_add]
  have hN : cfg6.N = 320 := N_6
  have ht := t.isLt
  unfold mulNN
  refine Fin.sum_mul_add_congr fun s k hl => ?_
  congr 1 <;> blk_ext [iblk6, index6_0, index6_1, index6_2]

end Cert.KernelIdeal.Val
-- ==== Proof.Value.Acc7.lean ====
/- REGION 7: the down weight's gradient. -/
module

public import proofs.«01_k».proof.Proof.Frame.Region7
public import proofs.«01_k».proof.Proof.Value.Tiles
public import Idealize.ShloMosaic.Lib.Pipeline.ValueKit
public import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

theorem pay7_2 (v3 : Vec Ideal S1280x2560 .f32) (v5 : Vec Ideal S1280x1024 .bf16) (v7 : Vec Ideal S1024x2560 .bf16) (j : S1280x2560.Idx) :
    (k7_pay2 v3 v5 v7 j : EReal) = v3 j + mulNN (A := 1280) (N := 1024) (B := 2560) v5 v7 j := by
  unfold k7_pay2 mulNN
  pointwise

theorem pay7_1 (j : S1280x2560.Idx) : (k7_pay1 (F := Ideal) j : EReal) = 0 := by
  unfold k7_pay1
  pointwise

theorem index7_0 : ∀ t : Fin grid7.N, win7_0.index t = ![(t : ℕ) / 64, (t : ℕ) % 32] := by decide +kernel
theorem index7_1 : ∀ t : Fin grid7.N, win7_1.index t = ![(t : ℕ) % 32, (t : ℕ) / 32 % 2] := by decide +kernel
theorem index7_2 : ∀ t : Fin grid7.N, win7_2.index t = ![(t : ℕ) / 64, (t : ℕ) / 32 % 2] := by decide +kernel

variable (V : (c : Dev nD) → (b : Ref sig .tc) → Buf (Elt Ideal) ((c : Thread nD τ).loc b))

theorem arr7 (c : Dev nD) : (dat7 V c).arrAt 2 cfg7.N = mulNN (A := 6400) (N := 32768) (B := 5120) (V c main_v13_0) (V c main_v12) := by
  refine (dat7 V c).arrAt_eq_of_covers 2 _ (by decide +kernel) fun t hf y => ?_
  blk_simp
  rw [after7_2, Pipeline.eq_sum_fin_of_reset_step_apply_of_flush (fun n h => outsAt7 V c n h) 32 (fun _ => (0 : EReal)) _
    (fun t h j => by rw [outsAt7_A V c t h]; frame_out; rw [pay7_2, pay7_1])
    (fun t h j => by rw [outsAt7_B V c t h]; frame_out; rw [pay7_2]) t ((flush7_2 t).mp hf) y, zero_add]
  have hN : cfg7.N = 320 := N_7
  have ht := t.isLt
  unfold mulNN
  refine Fin.sum_mul_add_congr fun s k hl => ?_
  congr 1 <;> blk_ext [iblk7, index7_0, index7_1, index7_2]

end Cert.KernelIdeal.Val
-- ==== Proof.Value.Acc8.lean ====
/- REGION 8: the tokens' gradient. -/
module

public import proofs.«01_k».proof.Proof.Frame.Region8
public import proofs.«01_k».proof.Proof.Value.Tiles
public import Idealize.ShloMosaic.Lib.Pipeline.ValueKit
public import Idealize.ShloMosaic.Lib.Pipeline.ReadBack
import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

/-- One element of a block of gradients times a weight's block of rows. -/
def mulS (x : S1x1024x1280.Idx → EReal) (w : S1x2560x1280.Idx → EReal) (j : S1024x2560.Idx) : EReal :=
  ∑ f : Fin 1280, x (ix3 0 (j 0) f) * w (ix3 0 (j 1) f)

theorem pay8_1 (j : S1024x2560.Idx) : (k8_pay1 (F := Ideal) j : EReal) = 0 := by
  unfold k8_pay1
  pointwise
theorem pay8_2 (v : Vec Ideal S1024x2560 .f32) (x : Vec Ideal S1x1024x1280 .bf16) (w : Vec Ideal S1x2560x1280 .bf16)
    (j : S1024x2560.Idx) : (k8_pay2 v x w j : EReal) = v j + mulS x w j := by
  unfold k8_pay2 mulS
  pointwise
theorem pay8_3 (v : Vec Ideal S1024x2560 .f32) (x : Vec Ideal S1x1024x1280 .bf16) (w : Vec Ideal S1x2560x1280 .bf16)
    (j : S1024x2560.Idx) : (k8_pay3 v x w j : EReal) = v j + mulS x w j := by
  unfold k8_pay3 mulS
  pointwise
theorem pay8_4 (v : Vec Ideal S1024x2560 .f32) (j : S1024x2560.Idx) : (k8_pay4 v j : EReal) = v j := rfl

theorem index8_0 : ∀ t : Fin grid8.N, win8_0.index t = ![0, (t : ℕ) / 10, (t : ℕ) % 5] := by decide +kernel
theorem index8_1 : ∀ t : Fin grid8.N, win8_1.index t = ![0, (t : ℕ) / 10, (t : ℕ) % 5] := by decide +kernel
theorem index8_2 : ∀ t : Fin grid8.N, win8_2.index t = ![0, (t : ℕ) / 5 % 2, (t : ℕ) % 5] := by decide +kernel
theorem index8_3 : ∀ t : Fin grid8.N, win8_3.index t = ![1, (t : ℕ) / 5 % 2, (t : ℕ) % 5] := by decide +kernel
theorem index8_4 : ∀ t : Fin grid8.N, win8_4.index t = ![(t : ℕ) / 10, (t : ℕ) / 5 % 2] := by decide +kernel

variable (V : (c : Dev nD) → (b : Ref sig .tc) → Buf (Elt Ideal) ((c : Thread nD τ).loc b))

/-- What a point adds to the accumulator: the gate's part and the up projection's. -/
def part8 (c : Dev nD) (t : Fin cfg8.N) (j : S1024x2560.Idx) : EReal :=
  mulS (iblk8 V c 0 t) (iblk8 V c 2 t) j + mulS (iblk8 V c 1 t) (iblk8 V c 3 t) j

theorem acc8_A (c : Dev nD) (t : Fin cfg8.N) (h0 : t.val % 5 = 0) (j : S1024x2560.Idx) :
    ((outsAt8 V c t.val t.isLt).2 j : EReal) = 0 + part8 V c t j := by
  rw [outsAt8_A V c t h0 (by omega)]
  frame_out
  rw [pay8_3, pay8_2, pay8_1, add_assoc]
  rfl

theorem acc8_B (c : Dev nD) (t : Fin cfg8.N) (h0 : ¬t.val % 5 = 0) (j : S1024x2560.Idx) :
    ((outsAt8 V c t.val t.isLt).2 j : EReal)
      = (outsAt8 V c (t.val - 1) (Nat.lt_of_le_of_lt (Nat.sub_le _ _) t.isLt)).2 j + part8 V c t j := by
  by_cases h1 : t.val % 5 = 4
  · rw [outsAt8_C V c t h0 h1]
    frame_out
    simp only [read_unread_whole]
    rw [pay8_3, pay8_2, add_assoc]
    rfl
  · rw [outsAt8_B V c t h0 h1]
    frame_out
    simp only [read_unread_whole]
    rw [pay8_3, pay8_2, add_assoc]
    rfl

theorem out8_eq (c : Dev nD) (t : Fin cfg8.N) (h1 : t.val % 5 = 4) (j : S1024x2560.Idx) :
    ((outsAt8 V c t.val t.isLt).1 j : EReal) = (outsAt8 V c t.val t.isLt).2 j := by
  rw [outsAt8_C V c t (by omega) h1]
  frame_out
  rw [pay8_4]

/-- An element of the gradients' product with one of the transposed weights. -/
def mulBack (g : S1x32768x6400.Idx → EReal) (w : S2x5120x6400.Idx → EReal) (k : Fin 2) (i : S32768x5120.Idx) : EReal :=
  ∑ f : Fin 6400, g (ix3 0 (i 0) f) * w (ix3 k (i 1) f)

set_option maxHeartbeats 2000000 in
theorem arr8 (c : Dev nD) : (dat8 V c).arrAt 4 cfg8.N = fun i : S32768x5120.Idx =>
    mulBack (V c main_v13_1) (V c main_v5) 0 i + mulBack (V c main_v13_2) (V c main_v5) 1 i := by
  refine (dat8 V c).arrAt_eq_of_covers 4 _ (by decide +kernel) fun t hf y => ?_
  have h4 := (flush8_4 t).mp hf
  blk_simp
  rw [after8_4, out8_eq V c t h4, Pipeline.eq_sum_fin_of_reset_step_apply_of_flush (fun n h => (outsAt8 V c n h).2) 5 (fun _ => (0 : EReal))
    (part8 V c) (acc8_A V c) (acc8_B V c) t h4 y, zero_add]
  have hN : cfg8.N = 320 := N_8
  have ht := t.isLt
  unfold part8 mulBack mulS
  rw [Finset.sum_add_distrib]
  congr 1
  · refine Fin.sum_mul_add_congr fun s k hl => ?_
    congr 1 <;> blk_ext [iblk8, index8_0, index8_2, index8_4]
  · refine Fin.sum_mul_add_congr fun s k hl => ?_
    congr 1 <;> blk_ext [iblk8, index8_1, index8_3, index8_4]

end Cert.KernelIdeal.Val
-- ==== Proof.Value.Results.lean ====
/- The five results of the program, as functions of the arguments. -/
module

public import proofs.«01_k».proof.Proof.Value.Fold
public import proofs.«01_k».proof.Proof.Value.Acc5
public import proofs.«01_k».proof.Proof.Value.Acc6
public import proofs.«01_k».proof.Proof.Value.Acc7
public import proofs.«01_k».proof.Proof.Value.Acc8
public import Idealize.ShloMosaic.Lib.StableHlo.RunRead
import Idealize.ShloMosaic.Lib.ValueIdx

@[expose] public section

set_option maxRecDepth 16384

noncomputable section

namespace Cert.KernelIdeal.Val

open Idealize.ShloMosaic Idealize.ShloMosaic.TcCoe Cert.KernelIdeal Cert.KernelIdeal.Gen

/-! ## The host's layout changes -/

theorem grad_layout (v : Vec Ideal S1x32768x6400 .bf16) (i : S32768x6400.Idx) :
    (shapeCast S32768x6400 v shapeCasts_S1x32768x6400_S32768x6400 i : EReal) = v (ix3 0 (i 0) (i 1)) := by
  pointwise

theorem amax_layout (v : Vec Ideal S25x2x32768 .f32) (i : S2x16384x50.Idx) :
    (shapeCast S2x16384x50 (transpose S32768x50 [1, 0] (shapeCast S50x32768 v shapeCasts_S25x2x32768_S50x32768) transposes_S50x32768_S32768x50_1_0)
      shapeCasts_S32768x50_S2x16384x50 i : EReal)
      = v (ix3 ⟨(i 2 : ℕ) / 2, by idx_bounds i; omega⟩ ⟨(i 2 : ℕ) % 2, by omega⟩ ⟨(i 0 : ℕ) * 16384 + (i 1 : ℕ), by idx_bounds i; omega⟩) := by
  pointwise

theorem dx_layout (v : Vec Ideal S32768x5120 .bf16) (i : S2x16384x5120.Idx) :
    (shapeCast S2x16384x5120 v shapeCasts_S32768x5120_S2x16384x5120 i : EReal)
      = v (ix2 ⟨(i 0 : ℕ) * 16384 + (i 1 : ℕ), by idx_bounds i; omega⟩ (i 2)) := by
  pointwise

/-- Group `n` of 128, counted in pairs of groups. -/
theorem amax_group (g : Fin 32768 → Fin 6400 → EReal) (n : Fin 50) (t : Fin 32768) :
    (amaxE fun k => g t ⟨(n : ℕ) / 2 * 256 + ((n : ℕ) % 2 * 128 + k), by omega⟩) = amaxE fun k => g t ⟨(n : ℕ) * 128 + k, by omega⟩ :=
  congrArg amaxE (funext fun k => congrArg (g t) (Fin.ext (by show (n : ℕ) / 2 * 256 + ((n : ℕ) % 2 * 128 + k) = n * 128 + k; omega)))

theorem pair_layout (a b : Vec Ideal S5120x6400 .f32) (i : S5120x2x6400.Idx) :
    (concatenate S5120x2x6400 1 [⟨S5120x1x6400, broadcastInDim S5120x1x6400 ![0, 2] bcast_S5120x6400_S5120x1x6400_0_2 a⟩,
      ⟨S5120x1x6400, broadcastInDim S5120x1x6400 ![0, 2] bcast_S5120x6400_S5120x1x6400_0_2 b⟩] concatenates_S5120x1x6400_S5120x1x6400_S5120x2x6400_d1 i : EReal)
      = if (i 1 : ℕ) < 1 then a (ix2 (i 0) (i 2)) else b (ix2 (i 0) (i 2)) := by
  pointwise
  split_ifs <;> rfl

theorem pair_layout' (a b : Vec Ideal S2x16384x50 .f32) (i : S2x16384x2x50.Idx) :
    (concatenate S2x16384x2x50 2 [⟨S2x16384x1x50, broadcastInDim S2x16384x1x50 ![0, 1, 3] bcast_S2x16384x50_S2x16384x1x50_0_1_3 a⟩,
      ⟨S2x16384x1x50, broadcastInDim S2x16384x1x50 ![0, 1, 3] bcast_S2x16384x50_S2x16384x1x50_0_1_3 b⟩] concatenates_S2x16384x1x50_S2x16384x1x50_S2x16384x2x50_d2 i : EReal)
      = if (i 2 : ℕ) < 1 then a (ix3 (i 0) (i 1) (i 3)) else b (ix3 (i 0) (i 1) (i 3)) := by
  pointwise
  split_ifs <;> rfl

variable (m : (ℓ : Loc nD τ sig) → Buf (Elt Ideal) ℓ) (ρ : Dev nD → PrngReg) (c : Dev nD)

/-! ## The weights' gradients and the tokens' gradient -/

theorem V10_v14 : V10 m ρ c main_v14 = shapeCast S32768x6400 (V9 m ρ c main_v13_1) shapeCasts_S1x32768x6400_S32768x6400 := by
  after_reads_simp
  rfl
theorem V10_v9_1 : V10 m ρ c main_v9_1 = fun i : S5120x32768.Idx => aX m c (ix2 (i 1) (i 0)) :=
  (W10_of m ρ c main_v9_1 (by decide)).trans ((W9_of m ρ c main_v9_1 (by decide)).trans ((W8_of m ρ c main_v9_1 (by decide)).trans
    ((W7_of m ρ c main_v9_1 (by decide)).trans (V6_v9_1 m ρ c))))
theorem V11_v15 : V11 m ρ c main_v15 = fun i : S5120x6400.Idx =>
    ∑ t : Fin 32768, aX m c (ix2 t (i 0)) * dgA (aX m c) (aY m c) (aGU m c) (aD m c) t (i 1) := by
  refine (W11_arr m ρ c 2).trans ((arr5 (V10 m ρ) c).trans ?_)
  rw [V10_v14, V10_v9_1, V9_v13_1]
  exact funext fun i => Finset.sum_congr rfl fun t _ => congrArg (_ * ·) (grad_layout _ (ix2 t (i 1)))
theorem V12_v16 : V12 m ρ c main_v16 = shapeCast S32768x6400 (V11 m ρ c main_v13_2) shapeCasts_S1x32768x6400_S32768x6400 := by
  after_reads_simp
  rfl
theorem V12_v9_1 : V12 m ρ c main_v9_1 = fun i : S5120x32768.Idx => aX m c (ix2 (i 1) (i 0)) :=
  (W12_of m ρ c main_v9_1 (by decide)).trans ((W11_of m ρ c main_v9_1 (by decide)).trans (V10_v9_1 m ρ c))
theorem V11_v13_2 : V11 m ρ c main_v13_2 = fun i : S1x32768x6400.Idx => duA (aX m c) (aY m c) (aGU m c) (aD m c) (i 1) (i 2) :=
  (W11_of m ρ c main_v13_2 (by decide)).trans ((W10_of m ρ c main_v13_2 (by decide)).trans (V9_v13_2 m ρ c))
theorem V13_v17 : V13 m ρ c main_v17 = fun i : S5120x6400.Idx =>
    ∑ t : Fin 32768, aX m c (ix2 t (i 0)) * duA (aX m c) (aY m c) (aGU m c) (aD m c) t (i 1) := by
  refine (W13_arr m ρ c 2).trans ((arr6 (V12 m ρ) c).trans ?_)
  rw [V12_v16, V12_v9_1, V11_v13_2]
  exact funext fun i => Finset.sum_congr rfl fun t _ => congrArg (_ * ·) (grad_layout _ (ix2 t (i 1)))
theorem V13_v13_0 : V13 m ρ c main_v13_0 = fun i : S6400x32768.Idx => hA (aX m c) (aGU m c) (i 1) (i 0) :=
  (W13_of m ρ c main_v13_0 (by decide)).trans ((W12_of m ρ c main_v13_0 (by decide)).trans ((W11_of m ρ c main_v13_0 (by decide)).trans ((W10_of m ρ c main_v13_0 (by decide)).trans (V9_v13_0 m ρ c))))
theorem V13_v12 : V13 m ρ c main_v12 = aY m c :=
  (W13_of m ρ c main_v12 (by decide)).trans ((W12_of m ρ c main_v12 (by decide)).trans ((W11_of m ρ c main_v12 (by decide)).trans ((W10_of m ρ c main_v12 (by decide)).trans ((W9_of m ρ c main_v12 (by decide)).trans (V8_v12 m ρ c)))))
theorem V14_v18 : V14 m ρ c main_v18 = fun i : S6400x5120.Idx =>
    ∑ t : Fin 32768, hA (aX m c) (aGU m c) t (i 0) * aY m c (ix2 t (i 1)) := by
  refine (W14_arr m ρ c 2).trans ((arr7 (V13 m ρ) c).trans ?_)
  rw [V13_v13_0, V13_v12]
  rfl
theorem V14_v13_1 : V14 m ρ c main_v13_1 = fun i : S1x32768x6400.Idx => dgA (aX m c) (aY m c) (aGU m c) (aD m c) (i 1) (i 2) :=
  (W14_of m ρ c main_v13_1 (by decide)).trans ((W13_of m ρ c main_v13_1 (by decide)).trans ((W12_of m ρ c main_v13_1 (by decide)).trans ((W11_of m ρ c main_v13_1 (by decide)).trans ((W10_of m ρ c main_v13_1 (by decide)).trans (V9_v13_1 m ρ c)))))
theorem V14_v13_2 : V14 m ρ c main_v13_2 = fun i : S1x32768x6400.Idx => duA (aX m c) (aY m c) (aGU m c) (aD m c) (i 1) (i 2) :=
  (W14_of m ρ c main_v13_2 (by decide)).trans ((W13_of m ρ c main_v13_2 (by decide)).trans ((W12_of m ρ c main_v13_2 (by decide)).trans (V11_v13_2 m ρ c)))
theorem V14_v5 : V14 m ρ c main_v5 = aGU m c :=
  (W14_of m ρ c main_v5 (by decide)).trans ((W13_of m ρ c main_v5 (by decide)).trans ((W12_of m ρ c main_v5 (by decide)).trans ((W11_of m ρ c main_v5 (by decide)).trans ((W10_of m ρ c main_v5 (by decide)).trans ((W9_of m ρ c main_v5 (by decide)).trans (V8_v5 m ρ c))))))
theorem V15_v19 : V15 m ρ c main_v19 = fun i : S32768x5120.Idx =>
    (∑ f : Fin 6400, dgA (aX m c) (aY m c) (aGU m c) (aD m c) (i 0) f * aGU m c (ix3 0 (i 1) f))
      + ∑ f : Fin 6400, duA (aX m c) (aY m c) (aGU m c) (aD m c) (i 0) f * aGU m c (ix3 1 (i 1) f) := by
  refine (W15_arr m ρ c 4).trans ((arr8 (V14 m ρ) c).trans ?_)
  rw [V14_v13_1, V14_v13_2, V14_v5]
  rfl

/-! ## The program's last host operations -/

theorem V15_v15 : V15 m ρ c main_v15 = fun i : S5120x6400.Idx =>
    ∑ t : Fin 32768, aX m c (ix2 t (i 0)) * dgA (aX m c) (aY m c) (aGU m c) (aD m c) t (i 1) :=
  (W15_of m ρ c main_v15 (by decide)).trans ((W14_of m ρ c main_v15 (by decide)).trans ((W13_of m ρ c main_v15 (by decide)).trans ((W12_of m ρ c main_v15 (by decide)).trans (V11_v15 m ρ c))))
theorem V15_v17 : V15 m ρ c main_v17 = fun i : S5120x6400.Idx =>
    ∑ t : Fin 32768, aX m c (ix2 t (i 0)) * duA (aX m c) (aY m c) (aGU m c) (aD m c) t (i 1) :=
  (W15_of m ρ c main_v17 (by decide)).trans ((W14_of m ρ c main_v17 (by decide)).trans (V13_v17 m ρ c))
theorem V15_v13_3 : V15 m ρ c main_v13_3 = fun i : S25x2x32768.Idx =>
    amaxE fun k => hA (aX m c) (aGU m c) (i 2) ⟨(i 0 : ℕ) * 256 + ((i 1 : ℕ) * 128 + k), by idx_bounds i; omega⟩ :=
  (W15_of m ρ c main_v13_3 (by decide)).trans ((W14_of m ρ c main_v13_3 (by decide)).trans ((W13_of m ρ c main_v13_3 (by decide)).trans ((W12_of m ρ c main_v13_3 (by decide)).trans ((W11_of m ρ c main_v13_3 (by decide)).trans ((W10_of m ρ c main_v13_3 (by decide)).trans (V9_v13_3 m ρ c))))))
theorem V15_v13_4 : V15 m ρ c main_v13_4 = fun i : S25x2x32768.Idx =>
    amaxE fun k => dgA (aX m c) (aY m c) (aGU m c) (aD m c) (i 2) ⟨(i 0 : ℕ) * 256 + ((i 1 : ℕ) * 128 + k), by idx_bounds i; omega⟩ :=
  (W15_of m ρ c main_v13_4 (by decide)).trans ((W14_of m ρ c main_v13_4 (by decide)).trans ((W13_of m ρ c main_v13_4 (by decide)).trans ((W12_of m ρ c main_v13_4 (by decide)).trans ((W11_of m ρ c main_v13_4 (by decide)).trans ((W10_of m ρ c main_v13_4 (by decide)).trans (V9_v13_4 m ρ c))))))
theorem V15_v13_5 : V15 m ρ c main_v13_5 = fun i : S25x2x32768.Idx =>
    amaxE fun k => duA (aX m c) (aY m c) (aGU m c) (aD m c) (i 2) ⟨(i 0 : ℕ) * 256 + ((i 1 : ℕ) * 128 + k), by idx_bounds i; omega⟩ :=
  (W15_of m ρ c main_v13_5 (by decide)).trans ((W14_of m ρ c main_v13_5 (by decide)).trans ((W13_of m ρ c main_v13_5 (by decide)).trans ((W12_of m ρ c main_v13_5 (by decide)).trans ((W11_of m ρ c main_v13_5 (by decide)).trans ((W10_of m ρ c main_v13_5 (by decide)).trans (V9_v13_5 m ρ c))))))

theorem W16_v35 : W16 m ρ c (Proc.devRef .tc main_v35) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_reads_simp
  rw [show W15 m ρ c (Proc.devRef .tc main_v19) = _ from V15_v19 m ρ c]
  funext i
  refine (dx_layout _ i).trans ?_
  rfl
theorem W16_v22 : W16 m ρ c (Proc.devRef .tc main_v22) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_reads_simp
  have h20 : StableHlo.upto hostOps9 (W15 m ρ c) 2 (Proc.devRef .tc main_v20)
      = broadcastInDim S5120x1x6400 ![0, 2] bcast_S5120x6400_S5120x1x6400_0_2 (W15 m ρ c (Proc.devRef .tc main_v15)) := by after_reads_simp
  have h21 : StableHlo.upto hostOps9 (W15 m ρ c) 2 (Proc.devRef .tc main_v21)
      = broadcastInDim S5120x1x6400 ![0, 2] bcast_S5120x6400_S5120x1x6400_0_2 (W15 m ρ c (Proc.devRef .tc main_v17)) := by after_reads_simp
  refine (congrArg₂ (fun a b => concatenate S5120x2x6400 1 [⟨S5120x1x6400, a⟩, ⟨S5120x1x6400, b⟩] concatenates_S5120x1x6400_S5120x1x6400_S5120x2x6400_d1)
    h20 h21).trans ?_
  rw [show W15 m ρ c (Proc.devRef .tc main_v15) = _ from V15_v15 m ρ c, show W15 m ρ c (Proc.devRef .tc main_v17) = _ from V15_v17 m ρ c]
  funext i
  refine (pair_layout _ _ i).trans ?_
  unfold out1 gS
  split_ifs with h h' h'
  · rfl
  · exact absurd (Fin.ext (Nat.lt_one_iff.mp h)) h'
  · exact absurd (congrArg Fin.val h') (fun e => h (Nat.lt_one_iff.mpr e))
  · rfl
theorem W16_v18 : W16 m ρ c (Proc.devRef .tc main_v18) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W16_of m ρ c main_v18 (by decide)).trans ((W15_of m ρ c main_v18 (by decide)).trans (V14_v18 m ρ c))
theorem W16_v25 : W16 m ρ c (Proc.devRef .tc main_v25) = out3 (m ((c : Thread nD τ).loc main_arg0)) (m ((c : Thread nD τ).loc main_arg1)) (m ((c : Thread nD τ).loc main_arg4)) (m ((c : Thread nD τ).loc main_arg5)) := by
  after_reads_simp
  rw [show W15 m ρ c (Proc.devRef .tc main_v13_3) = _ from V15_v13_3 m ρ c]
  funext i
  exact (amax_layout _ i).trans (amax_group _ (i 2) _)
theorem W16_v34 : W16 m ρ c (Proc.devRef .tc main_v34) = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  after_reads_simp
  have h32 : StableHlo.upto hostOps9 (W15 m ρ c) 14 (Proc.devRef .tc main_v32)
      = broadcastInDim S2x16384x1x50 ![0, 1, 3] bcast_S2x16384x50_S2x16384x1x50_0_1_3 (shapeCast S2x16384x50 (transpose S32768x50 [1, 0]
        (shapeCast S50x32768 (W15 m ρ c (Proc.devRef .tc main_v13_4)) shapeCasts_S25x2x32768_S50x32768) transposes_S50x32768_S32768x50_1_0)
        shapeCasts_S32768x50_S2x16384x50) := by
    after_reads_simp
    rfl
  have h33 : StableHlo.upto hostOps9 (W15 m ρ c) 14 (Proc.devRef .tc main_v33)
      = broadcastInDim S2x16384x1x50 ![0, 1, 3] bcast_S2x16384x50_S2x16384x1x50_0_1_3 (shapeCast S2x16384x50 (transpose S32768x50 [1, 0]
        (shapeCast S50x32768 (W15 m ρ c (Proc.devRef .tc main_v13_5)) shapeCasts_S25x2x32768_S50x32768) transposes_S50x32768_S32768x50_1_0)
        shapeCasts_S32768x50_S2x16384x50) := by
    after_reads_simp
    rfl
  refine (congrArg₂ (fun a b => concatenate S2x16384x2x50 2 [⟨S2x16384x1x50, a⟩, ⟨S2x16384x1x50, b⟩]
    concatenates_S2x16384x1x50_S2x16384x1x50_S2x16384x2x50_d2) h32 h33).trans ?_
  rw [show W15 m ρ c (Proc.devRef .tc main_v13_4) = _ from V15_v13_4 m ρ c, show W15 m ρ c (Proc.devRef .tc main_v13_5) = _ from V15_v13_5 m ρ c]
  funext i
  refine (pair_layout' _ _ i).trans ?_
  unfold out4 gS
  split_ifs with h h' h'
  · exact (amax_layout _ (ix3 (i 0) (i 1) (i 3))).trans (amax_group _ (i 3) _)
  · exact absurd (Fin.ext (Nat.lt_one_iff.mp h)) h'
  · exact absurd (congrArg Fin.val h') (fun e => h (Nat.lt_one_iff.mpr e))
  · exact (amax_layout _ (ix3 (i 0) (i 1) (i 3))).trans (amax_group _ (i 3) _)

end Cert.KernelIdeal.Val

end
-- ==== Proof.Value.Ref.lean ====
/- What the reference's results are, as functions of the arguments. -/
module

public import proofs.«01_k».proof.Proof.Gen.ReferenceIdeal.Run
public import proofs.«01_k».proof.Proof.Gen.ReferenceIdeal.Read
public import proofs.«01_k».proof.Proof.Value.Spec
public import Idealize.ShloMosaic.Lib.Pipeline.ValueKit
public import Idealize.ShloMosaic.Lib.ValueIdx

@[expose] public section

set_option maxRecDepth 16384

noncomputable section

namespace Cert.ReferenceIdeal.Val

open Idealize.ShloMosaic Idealize.ShloMosaic.TcCoe Cert.ReferenceIdeal Cert.ReferenceIdeal.Gen Cert.ReferenceIdeal.Value Cert.ReferenceIdeal.Read
open Cert.KernelIdeal.Val (rowsOf guOf downOf hS gS hA dgA duA hE dgE duE mulA mulAt amaxE out0 out1 out2 out3 out4 dxS)

/-! ## The reference's stages, in the terms of Spec.lean -/

section Terms
variable (x1 x3 : Vec Ideal S2x16384x40 .f32) (x5 : Vec Ideal S40x2x50 .f32) (x7 : Vec Ideal S50x40 .f32)
  (r0 r1 : Vec Ideal S2x16384x5120 .bf16) (r2 : Vec Ideal S5120x2x6400 .bf16) (r3 : Vec Ideal S6400x5120 .bf16)

theorem val7 (i : S32768x5120.Idx) : (val_main_v7 (F := Ideal) x1 r0 i : EReal) = rowsOf r0 x1 i := by
  unfold val_main_v7 val_main_v6 val_main_v5 val_main_v4 val_main_v3 val_main_v2 val_main_v1 rowsOf
  pointwise
theorem val14 (i : S32768x5120.Idx) : (val_main_v14 (F := Ideal) x3 r1 i : EReal) = rowsOf r1 x3 i := by
  unfold val_main_v14 val_main_v13 val_main_v12 val_main_v11 val_main_v10 val_main_v9 val_main_v8 rowsOf
  pointwise
theorem val20 (i : S5120x2x6400.Idx) : (val_main_v20 (F := Ideal) x5 r2 i : EReal) = guOf r2 x5 (ix3 (i 1) (i 0) (i 2)) := by
  unfold val_main_v20 val_main_v19 val_main_v18 val_main_v17 val_main_v16 val_main_v15 guOf
  pointwise
theorem val26 (i : S6400x5120.Idx) : (val_main_v26 (F := Ideal) x7 r3 i : EReal) = downOf r3 x7 i := by
  unfold val_main_v26 val_main_v25 val_main_v24 val_main_v23 val_main_v22 val_main_v21 downOf
  pointwise

theorem val27 (i : S32768x2x6400.Idx) : (val_main_v27 (F := Ideal) x1 x5 r0 r2 i : EReal) = mulA (rowsOf r0 x1) (guOf r2 x5) (i 1) (i 0) (i 2) := by
  rw [val_main_v27_apply]
  refine Finset.sum_congr rfl fun k _ => ?_
  rw [val7, val20]
  refine congrArg₂ _ (congrArg _ (funext fun a => ?_)) rfl
  fin_cases a <;> rfl
theorem val29 (i : S32768x6400.Idx) : (val_main_v29 (F := Ideal) x1 x5 r0 r2 i : EReal) = mulA (rowsOf r0 x1) (guOf r2 x5) 0 (i 0) (i 1) := by
  unfold val_main_v29 val_main_v28
  pointwise
  rw [val27]
  rfl
theorem val31 (i : S32768x6400.Idx) : (val_main_v31 (F := Ideal) x1 x5 r0 r2 i : EReal) = mulA (rowsOf r0 x1) (guOf r2 x5) 1 (i 0) (i 1) := by
  unfold val_main_v31 val_main_v30
  pointwise
  rw [val27]
  rfl
theorem val37 (i : S32768x6400.Idx) : (val_main_v37 (F := Ideal) x1 x5 r0 r2 i : EReal) = Ideal.logistic (val_main_v29 (F := Ideal) x1 x5 r0 r2 i) := by
  unfold val_main_v37 val_main_v36 val_main_cst_0 val_main_v35 val_main_v34 val_main_cst val_main_v33 val_main_v32 Ideal.logistic
  pointwise
theorem val40 (i : S32768x6400.Idx) : (val_main_v40 (F := Ideal) x1 x5 r0 r2 i : EReal) = hS r0 x1 r2 x5 (i 0) (i 1) := by
  unfold hS hA hE
  rw [← val29, ← val31, ← val37]
  rfl
theorem val45 (i : S32768x6400.Idx) : (val_main_v45 (F := Ideal) x3 x7 r1 r3 i : EReal) = mulAt (rowsOf r1 x3) (downOf r3 x7) (i 0) (i 1) := by
  rw [val_main_v45_apply]
  refine Finset.sum_congr rfl fun k _ => ?_
  rw [val14, val26]
  refine congrArg₂ _ (congrArg _ (funext fun a => ?_)) (congrArg _ (funext fun a => ?_)) <;> fin_cases a <;> rfl
theorem val53 (i : S32768x6400.Idx) : (val_main_v53 (F := Ideal) x1 x3 x5 x7 r0 r1 r2 r3 i : EReal)
    = dgA (rowsOf r0 x1) (rowsOf r1 x3) (guOf r2 x5) (downOf r3 x7) (i 0) (i 1) := by
  unfold dgA dgE
  rw [← val29, ← val31, ← val45, ← val37]
  unfold val_main_v53 val_main_v52 val_main_v51 val_main_cst_3 val_main_v50 val_main_v49 val_main_v48 val_main_cst_2 val_main_v47 val_main_v46
  pointwise
theorem val55 (i : S32768x6400.Idx) : (val_main_v55 (F := Ideal) x1 x3 x5 x7 r0 r1 r2 r3 i : EReal)
    = duA (rowsOf r0 x1) (rowsOf r1 x3) (guOf r2 x5) (downOf r3 x7) (i 0) (i 1) := by
  unfold duA duE
  rw [← val29, ← val45, ← val37]
  rfl
theorem val59 (i : S32768x2x6400.Idx) : (val_main_v59 (F := Ideal) x1 x3 x5 x7 r0 r1 r2 r3 i : EReal)
    = gS r0 x1 r1 x3 r2 x5 r3 x7 (i 1) (i 0) (i 2) := by
  unfold gS val_main_v59 val_main_v58 val_main_v57 val_main_v56
  pointwise
  split_ifs with h h' h'
  · exact val53 _ _ _ _ _ _ _ _ _
  · exact absurd (Fin.ext (Nat.lt_one_iff.mp h)) h'
  · exact absurd (congrArg Fin.val h') (fun e => h (Nat.lt_one_iff.mpr e))
  · exact val55 _ _ _ _ _ _ _ _ _

theorem val66 (i : S5120x2x6400.Idx) : (val_main_v66 (F := Ideal) x1 x3 x5 x7 r0 r1 r2 r3 i : EReal) = out1 r0 x1 r1 x3 r2 x5 r3 x7 i := by
  rw [val_main_v66_apply]
  refine Finset.sum_congr rfl fun k _ => ?_
  rw [val7, val59]
  refine congrArg₂ _ (congrArg _ (funext fun a => ?_)) rfl
  fin_cases a <;> rfl
theorem val67 (i : S6400x5120.Idx) : (val_main_v67 (F := Ideal) x1 x3 x5 r0 r1 r2 i : EReal) = out2 r0 x1 r1 x3 r2 x5 i := by
  rw [val_main_v67_apply]
  refine Finset.sum_congr rfl fun k _ => ?_
  rw [val14, val40]
  refine congrArg₂ _ rfl (congrArg _ (funext fun a => ?_))
  fin_cases a <;> rfl
theorem val68 (i : S2x16384x5120.Idx) : (val_main_v68 (F := Ideal) x1 x3 x5 x7 r0 r1 r2 r3 i : EReal) = out0 r0 x1 r1 x3 r2 x5 r3 x7 i := by
  unfold val_main_v68 val_main_v65 val_main_v64
  pointwise
  unfold out0 dxS
  rw [← Finset.sum_add_distrib]
  refine Finset.sum_congr rfl fun f _ => (Fin.sum_univ_two _).trans ?_
  rw [val59, val59, val20, val20]
  rfl
theorem val69 (i : S2x16384x50.Idx) : (val_main_v69 (F := Ideal) x1 x5 r0 r2 i : EReal) = out3 r0 x1 r2 x5 i := by
  unfold val_main_v69 val_main_v44 val_main_v43 val_main_v42 val_main_v41 val_main_cst_1
  pointwise
  unfold out3 amaxE
  refine congrArg (fun f => Finset.fold max _ f Finset.univ) (funext fun k => congrArg FloatOps.absf ?_)
  exact val40 _ _ _ _ _
theorem val70 (i : S2x16384x2x50.Idx) : (val_main_v70 (F := Ideal) x1 x3 x5 x7 r0 r1 r2 r3 i : EReal) = out4 r0 x1 r1 x3 r2 x5 r3 x7 i := by
  unfold val_main_v70 val_main_v63 val_main_v62 val_main_v61 val_main_v60 val_main_cst_4
  pointwise
  unfold out4 amaxE
  refine congrArg (fun f => Finset.fold max _ f Finset.univ) (funext fun k => congrArg FloatOps.absf ?_)
  exact val59 _ _ _ _ _ _ _ _ _
end Terms

/-! ## The four arrays of converted codes are the codes' values -/

section Args
theorem out0_4_apply (x0 : Vec Ideal S2x16384x5120 .fp8e4m3) (x1 : Vec Ideal S2x16384x5120 .fp8e5m2) (x2 : Vec Ideal S5120x2x6400 .fp8e4m3)
    (x3 : Vec Ideal S6400x5120 .fp8e4m3) (y : S2x16384x5120.Idx) : (out0_4 x0 x1 x2 x3 y : EReal) = x0 y := by
  canon_tiles x h
  all_goals
    open_payloads
    exact congrArg x0 (funext fun a => Fin.ext (by fin_cases a <;> first | exact h0.symm | exact h1.symm | exact h2.symm))
theorem out0_5_apply (x0 : Vec Ideal S2x16384x5120 .fp8e4m3) (x1 : Vec Ideal S2x16384x5120 .fp8e5m2) (x2 : Vec Ideal S5120x2x6400 .fp8e4m3)
    (x3 : Vec Ideal S6400x5120 .fp8e4m3) (y : S2x16384x5120.Idx) : (out0_5 x0 x1 x2 x3 y : EReal) = x1 y := by
  canon_tiles x h
  all_goals
    open_payloads
    exact congrArg x1 (funext fun a => Fin.ext (by fin_cases a <;> first | exact h0.symm | exact h1.symm | exact h2.symm))
theorem out0_6_apply (x0 : Vec Ideal S2x16384x5120 .fp8e4m3) (x1 : Vec Ideal S2x16384x5120 .fp8e5m2) (x2 : Vec Ideal S5120x2x6400 .fp8e4m3)
    (x3 : Vec Ideal S6400x5120 .fp8e4m3) (y : S5120x2x6400.Idx) : (out0_6 x0 x1 x2 x3 y : EReal) = x2 y := by
  canon_tiles x h
  all_goals
    open_payloads
    exact congrArg x2 (funext fun a => Fin.ext (by fin_cases a <;> first | exact h0.symm | exact h1.symm | exact h2.symm))
theorem out0_7_apply (x0 : Vec Ideal S2x16384x5120 .fp8e4m3) (x1 : Vec Ideal S2x16384x5120 .fp8e5m2) (x2 : Vec Ideal S5120x2x6400 .fp8e4m3)
    (x3 : Vec Ideal S6400x5120 .fp8e4m3) (y : S6400x5120.Idx) : (out0_7 x0 x1 x2 x3 y : EReal) = x3 y := by
  canon_tiles x h
  all_goals
    open_payloads
    exact congrArg x3 (funext fun a => Fin.ext (by fin_cases a <;> first | exact h0.symm | exact h1.symm | exact h2.symm))

variable (m : (ℓ : Loc nD τ sig) → Buf (Elt Ideal) ℓ) (c : Dev nD)
theorem reg0 : reg_main_v0_0 m c = m ((c : Thread nD τ).loc main_arg0) := by
  refine (dats m 0 c).arrAt_eq_of_covers 4 _ (by decide +kernel) fun t hf y => ?_
  blk_simp
  rw [after0_4, out0_4_apply]
  unfold iblk
  rfl
theorem reg1 : reg_main_v0_1 m c = m ((c : Thread nD τ).loc main_arg2) := by
  refine (dats m 0 c).arrAt_eq_of_covers 5 _ (by decide +kernel) fun t hf y => ?_
  blk_simp
  rw [after0_5, out0_5_apply]
  unfold iblk
  rfl
theorem reg2 : reg_main_v0_2 m c = m ((c : Thread nD τ).loc main_arg4) := by
  refine (dats m 0 c).arrAt_eq_of_covers 6 _ (by decide +kernel) fun t hf y => ?_
  blk_simp
  rw [after0_6, out0_6_apply]
  unfold iblk
  rfl
theorem reg3 : reg_main_v0_3 m c = m ((c : Thread nD τ).loc main_arg6) := by
  refine (dats m 0 c).arrAt_eq_of_covers 7 _ (by decide +kernel) fun t hf y => ?_
  blk_simp
  rw [after0_7, out0_7_apply]
  unfold iblk
  rfl
/-! ## The results, from the arrays the call leaves -/

theorem res68 : val_main_v68 (F := Ideal) (exitV m c (Proc.devRef .tc main_arg1)) (exitV m c (Proc.devRef .tc main_arg3)) (exitV m c (Proc.devRef .tc main_arg5)) (exitV m c (Proc.devRef .tc main_arg7)) (exitV m c (Proc.devRef .tc main_v0_0)) (exitV m c (Proc.devRef .tc main_v0_1)) (exitV m c (Proc.devRef .tc main_v0_2)) (exitV m c (Proc.devRef .tc main_v0_3))
    = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [exit_main_arg1, exit_main_arg3, exit_main_arg5, exit_main_arg7, exit_main_v0_0, reg0, exit_main_v0_1, reg1, exit_main_v0_2, reg2, exit_main_v0_3, reg3]
  exact funext fun i => val68 _ _ _ _ _ _ _ _ i
theorem res66 : val_main_v66 (F := Ideal) (exitV m c (Proc.devRef .tc main_arg1)) (exitV m c (Proc.devRef .tc main_arg3)) (exitV m c (Proc.devRef .tc main_arg5)) (exitV m c (Proc.devRef .tc main_arg7)) (exitV m c (Proc.devRef .tc main_v0_0)) (exitV m c (Proc.devRef .tc main_v0_1)) (exitV m c (Proc.devRef .tc main_v0_2)) (exitV m c (Proc.devRef .tc main_v0_3))
    = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [exit_main_arg1, exit_main_arg3, exit_main_arg5, exit_main_arg7, exit_main_v0_0, reg0, exit_main_v0_1, reg1, exit_main_v0_2, reg2, exit_main_v0_3, reg3]
  exact funext fun i => val66 _ _ _ _ _ _ _ _ i
theorem res67 : val_main_v67 (F := Ideal) (exitV m c (Proc.devRef .tc main_arg1)) (exitV m c (Proc.devRef .tc main_arg3)) (exitV m c (Proc.devRef .tc main_arg5)) (exitV m c (Proc.devRef .tc main_v0_0)) (exitV m c (Proc.devRef .tc main_v0_1)) (exitV m c (Proc.devRef .tc main_v0_2))
    = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [exit_main_arg1, exit_main_arg3, exit_main_arg5, exit_main_v0_0, reg0, exit_main_v0_1, reg1, exit_main_v0_2, reg2]
  exact funext fun i => val67 _ _ _ _ _ _ i
theorem res69 : val_main_v69 (F := Ideal) (exitV m c (Proc.devRef .tc main_arg1)) (exitV m c (Proc.devRef .tc main_arg5)) (exitV m c (Proc.devRef .tc main_v0_0)) (exitV m c (Proc.devRef .tc main_v0_2))
    = out3 (m ((c : Thread nD τ).loc main_arg0)) (m ((c : Thread nD τ).loc main_arg1)) (m ((c : Thread nD τ).loc main_arg4)) (m ((c : Thread nD τ).loc main_arg5)) := by
  rw [exit_main_arg1, exit_main_arg5, exit_main_v0_0, reg0, exit_main_v0_2, reg2]
  exact funext fun i => val69 _ _ _ _ i
theorem res70 : val_main_v70 (F := Ideal) (exitV m c (Proc.devRef .tc main_arg1)) (exitV m c (Proc.devRef .tc main_arg3)) (exitV m c (Proc.devRef .tc main_arg5)) (exitV m c (Proc.devRef .tc main_arg7)) (exitV m c (Proc.devRef .tc main_v0_0)) (exitV m c (Proc.devRef .tc main_v0_1)) (exitV m c (Proc.devRef .tc main_v0_2)) (exitV m c (Proc.devRef .tc main_v0_3))
    = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [exit_main_arg1, exit_main_arg3, exit_main_arg5, exit_main_arg7, exit_main_v0_0, reg0, exit_main_v0_1, reg1, exit_main_v0_2, reg2, exit_main_v0_3, reg3]
  exact funext fun i => val70 _ _ _ _ _ _ _ _ i

end Args

end Cert.ReferenceIdeal.Val

end
-- ==== Proof.Value.Algebraic.lean ====
/- The value claim: the kernel and the reference, run from memories agreeing on the arguments, leave equal results. -/
module

public import proofs.«01_k».proof.Defs
public import proofs.«01_k».proof.Proof.Frame.Run
public import proofs.«01_k».proof.Proof.Value.Results
public import proofs.«01_k».proof.Proof.Value.Ref

@[expose] public section

set_option maxRecDepth 16384

noncomputable section

namespace Cert.KernelIdeal.Val

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The kernel's run: its five results are the functions of Spec.lean of the arguments, which end unchanged. -/
theorem run_kernel : θ_run (Cert.KernelIdeal.defs (F := Ideal)) (onTc (τ := τ) (main (F := Ideal))) ⟨m, fun _ => 0, ρ⟩ (fun r => ∀ c : Dev nD,
    r.2.mem ((c.tc : Thread nD τ).loc main_v35) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v22) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v18) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v25) = out3 (m ((c : Thread nD τ).loc main_arg0)) (m ((c : Thread nD τ).loc main_arg1)) (m ((c : Thread nD τ).loc main_arg4)) (m ((c : Thread nD τ).loc main_arg5))
    ∧ r.2.mem ((c.tc : Thread nD τ).loc main_v34) = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run _ _ _).mono (fun r hr c =>
      ⟨(hr.1 c _ (mem_uc main_v35 (by decide))).trans (W16_v35 m ρ c),
        (hr.1 c _ (mem_uc main_v22 (by decide))).trans (W16_v22 m ρ c),
        (hr.1 c _ (mem_uc main_v18 (by decide))).trans (W16_v18 m ρ c),
        (hr.1 c _ (mem_uc main_v25 (by decide))).trans (W16_v25 m ρ c),
        (hr.1 c _ (mem_uc main_v34 (by decide))).trans (W16_v34 m ρ c),
        (hr.1 c _ (mem_uc main_arg0 (by decide))).trans (W16_main_arg0 m ρ c),
        (hr.1 c _ (mem_uc main_arg1 (by decide))).trans (W16_main_arg1 m ρ c),
        (hr.1 c _ (mem_uc main_arg2 (by decide))).trans (W16_main_arg2 m ρ c),
        (hr.1 c _ (mem_uc main_arg3 (by decide))).trans (W16_main_arg3 m ρ c),
        (hr.1 c _ (mem_uc main_arg4 (by decide))).trans (W16_main_arg4 m ρ c),
        (hr.1 c _ (mem_uc main_arg5 (by decide))).trans (W16_main_arg5 m ρ c),
        (hr.1 c _ (mem_uc main_arg6 (by decide))).trans (W16_main_arg6 m ρ c),
        (hr.1 c _ (mem_uc main_arg7 (by decide))).trans (W16_main_arg7 m ρ c)⟩) (run_all m ρ)

end Cert.KernelIdeal.Val

namespace Cert.ReferenceIdeal.Val

open Idealize.ShloMosaic Idealize.ShloMosaic.TcCoe Idealize.SL.Sem Cert.ReferenceIdeal Cert.ReferenceIdeal.Gen Cert.ReferenceIdeal.Read
open Cert.KernelIdeal.Val (out0 out1 out2 out3 out4)

variable (m : (ℓ : Loc nD τ sig) → Buf (Elt Ideal) ℓ) (ρ : Dev nD → PrngReg)

/-- The reference's run: its five results are the same functions of the arguments. -/
theorem run_reference : θ_run (Cert.ReferenceIdeal.defs (F := Ideal)) (onTc (τ := τ) (main (F := Ideal))) ⟨m, fun _ => 0, ρ⟩ (fun r => ∀ c : Dev nD,
    r.2.mem ((c.tc : Thread nD τ).loc main_v68) = out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v66) = out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_v67) = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ∧ r.2.mem ((c.tc : Thread nD τ).loc main_v69) = out3 (m ((c : Thread nD τ).loc main_arg0)) (m ((c : Thread nD τ).loc main_arg1)) (m ((c : Thread nD τ).loc main_arg4)) (m ((c : Thread nD τ).loc main_arg5))
    ∧ r.2.mem ((c.tc : Thread nD τ).loc main_v70) = out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run _ _ _).mono (fun r hr c => by
    obtain ⟨h0, h1, h2, h3, h4, hargs⟩ := hr c
    exact ⟨h0.trans ((val_main_v68_eq _).trans (res68 m c)), h1.trans ((val_main_v66_eq _).trans (res66 m c)), h2.trans ((val_main_v67_eq _).trans (res67 m c)), h3.trans ((val_main_v69_eq _).trans (res69 m c)), h4.trans ((val_main_v70_eq _).trans (res70 m c)), hargs⟩)
    (Cert.ReferenceIdeal.Value.run m ρ)

end Cert.ReferenceIdeal.Val

namespace Cert.KernelIdeal.Val

open Idealize.ShloMosaic Idealize.ShloMosaic.TcCoe Idealize.SL.Sem Cert.KernelIdeal Cert.KernelIdeal.Gen

theorem algebraic : Cert.algebraic_KernelIdeal_ReferenceIdeal (hKernelIdeal := Cert.KernelIdeal.Gen.facts) (hReferenceIdeal := Cert.ReferenceIdeal.Gen.facts) := by
  intro m g m' g' _ hm
  refine ⟨fun c => out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => out1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => out3 (m ((c : Thread nD τ).loc main_arg0)) (m ((c : Thread nD τ).loc main_arg1)) (m ((c : Thread nD τ).loc main_arg4)) (m ((c : Thread nD τ).loc main_arg5)),
    fun c => out4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    run_kernel m g, ?_⟩
  refine (θ_run _ _ _).mono (fun r hr c => ?_) (Cert.ReferenceIdeal.Val.run_reference m' g')
  obtain ⟨a0, a1, a2, a3, a4, a5, a6, a7⟩ := hm c
  have h := hr c
  rw [a0, a1, a2, a3, a4, a5, a6, a7] at h
  obtain ⟨h0, h1, h2, h3, h4, hargs⟩ := h
  refine ⟨h0, h1, h2, h3, h4, ?_⟩
  rw [a0, a1, a2, a3, a4, a5, a6, a7]
  exact hargs

end Cert.KernelIdeal.Val

end
-- ==== Proof.KernelFrame.lean ====
/- The frame of the printed kernel. Its text and that of the program read at the ideal instance are the same, so that
   the frame proved of the latter at any float type is the former's at the machine's. -/
module

public import proofs.«01_k».proof.Defs
public import proofs.«01_k».proof.Proof.Gen.Kernel
public import proofs.«01_k».proof.Proof.Frame.Run

@[expose] public section

set_option maxRecDepth 65536

noncomputable section

namespace Cert.Proof

open Idealize.ShloMosaic Idealize.SL.Sem

/-- The frame of the idealized program's text at the float type `Bits`. -/
def FrameBits [Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- The two programs are one text: the same statement of either, term by term. -/
theorem frame_eq : Cert.quiescent_Kernel (hKernel := Cert.Kernel.Gen.facts) = FrameBits := by chain_rfl

theorem frame_kernel : Cert.quiescent_Kernel (hKernel := Cert.Kernel.Gen.facts) := by
  rw [frame_eq]; exact fun m g _ => Cert.KernelIdeal.Gen.frame (F := Bits) m g

end Cert.Proof

end
-- ==== Proof.lean ====
module

public import proofs.«01_k».proof.Proof.Value.Algebraic
public import proofs.«01_k».proof.Defs
public import proofs.«01_k».proof.Proof.KernelFrame
public import proofs.«01_k».proof.Proof.Gen.ReferenceIdeal.Frame

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel,
  fun m g _ => Cert.KernelIdeal.Gen.frame (F := Ideal) m g,
  fun m g _ => Cert.ReferenceIdeal.Gen.frame (F := Ideal) m g,
  trivial,
  Cert.KernelIdeal.Val.algebraic⟩

end Cert.Proof

end
